-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v9_0)) (v1 : (c : Dev Cert.KernelIdeal.nD) → Buf (Elt Ideal) ((c.tc : Thread Cert.KernelIdeal.nD Cert.KernelIdeal.τ).loc Cert.KernelIdeal.main_v9_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9_0) = v0 c
          ∧ r.2.mem ((c.tc : Thread Cert.KernelIdeal.nD Cert.KernelIdeal.τ).loc Cert.KernelIdeal.main_v9_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v175) = v0 c
          ∧ r.2.mem ((c.tc : Thread Cert.ReferenceIdeal.nD Cert.ReferenceIdeal.τ).loc Cert.ReferenceIdeal.main_v176) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S3x256x3584 : Shape := ⟨3, ![3, 256, 3584]⟩
abbrev S3584x9472 : Shape := ⟨2, ![3584, 9472]⟩
abbrev S18944x16 : Shape := ⟨2, ![18944, 16]⟩
abbrev S33947648 : Shape := ⟨1, ![33947648]⟩
abbrev S1184x28x8x128 : Shape := ⟨4, ![1184, 28, 8, 128]⟩
abbrev S16x18944 : Shape := ⟨2, ![16, 18944]⟩
abbrev S8x18944 : Shape := ⟨2, ![8, 18944]⟩
abbrev S_ : Shape := ⟨0, ![]⟩
abbrev S768x3584 : Shape := ⟨2, ![768, 3584]⟩
abbrev S768x18944 : Shape := ⟨2, ![768, 18944]⟩
abbrev S3584x256 : Shape := ⟨2, ![3584, 256]⟩
abbrev S8x512 : Shape := ⟨2, ![8, 512]⟩
abbrev S32x28x8x128 : Shape := ⟨4, ![32, 28, 8, 128]⟩
abbrev S768x512 : Shape := ⟨2, ![768, 512]⟩
abbrev S4x1792x128 : Shape := ⟨3, ![4, 1792, 128]⟩
abbrev S8x128 : Shape := ⟨2, ![8, 128]⟩
abbrev S16x128 : Shape := ⟨2, ![16, 128]⟩
abbrev S32x128 : Shape := ⟨2, ![32, 128]⟩
abbrev S8x128x1 : Shape := ⟨3, ![8, 128, 1]⟩
abbrev S1x8x128 : Shape := ⟨3, ![1, 8, 128]⟩
abbrev S1x1792x128 : Shape := ⟨3, ![1, 1792, 128]⟩
abbrev S1792x128 : Shape := ⟨2, ![1792, 128]⟩
abbrev S3584x128 : Shape := ⟨2, ![3584, 128]⟩
abbrev S3584x512 : Shape := ⟨2, ![3584, 512]⟩
abbrev S32x1x8x128 : Shape := ⟨4, ![32, 1, 8, 128]⟩
abbrev S32x8x128 : Shape := ⟨3, ![32, 8, 128]⟩
abbrev S256x128 : Shape := ⟨2, ![256, 128]⟩
abbrev S512x128 : Shape := ⟨2, ![512, 128]⟩
abbrev S512x3584 : Shape := ⟨2, ![512, 3584]⟩

abbrev nBuf : Space → Nat
  | .hbm => 16
  | .vmem => 12
  | .smem => 0
  | _ => 0

abbrev bufTy : (tb : Table) → Fin (tcTables nBuf tb) → BufTy
  | .hbm, ⟨0, _⟩ => ⟨S3x256x3584, .bf16⟩
  | .hbm, ⟨1, _⟩ => ⟨S3584x9472, .i8⟩
  | .hbm, ⟨2, _⟩ => ⟨S18944x16, .i16⟩
  | .hbm, ⟨3, _⟩ => ⟨S33947648, .i32⟩
  | .hbm, ⟨4, _⟩ => ⟨S1184x28x8x128, .i32⟩
  | .hbm, ⟨5, _⟩ => ⟨S18944x16, .i32⟩
  | .hbm, ⟨6, _⟩ => ⟨S16x18944, .i32⟩
  | .hbm, ⟨7, _⟩ => ⟨S8x18944, .i32⟩
  | .hbm, ⟨8, _⟩ => ⟨S8x18944, .i32⟩
  | .hbm, ⟨9, _⟩ => ⟨S_, .i32⟩
  | .hbm, ⟨10, _⟩ => ⟨S8x18944, .i32⟩
  | .hbm, ⟨11, _⟩ => ⟨S8x18944, .i32⟩
  | .hbm, ⟨12, _⟩ => ⟨S8x18944, .i32⟩
  | .hbm, ⟨13, _⟩ => ⟨S768x3584, .bf16⟩
  | .hbm, ⟨14, _⟩ => ⟨S768x18944, .bf16⟩
  | .hbm, ⟨15, _⟩ => ⟨S768x18944, .f32⟩
  | .local _ .vmem, ⟨0, _⟩ => ⟨S768x3584, .bf16⟩
  | .local _ .vmem, ⟨1, _⟩ => ⟨S3584x256, .i8⟩
  | .local _ .vmem, ⟨2, _⟩ => ⟨S3584x256, .i8⟩
  | .local _ .vmem, ⟨3, _⟩ => ⟨S8x512, .i32⟩
  | .local _ .vmem, ⟨4, _⟩ => ⟨S8x512, .i32⟩
  | .local _ .vmem, ⟨5, _⟩ => ⟨S32x28x8x128, .i32⟩
  | .local _ .vmem, ⟨6, _⟩ => ⟨S32x28x8x128, .i32⟩
  | .local _ .vmem, ⟨7, _⟩ => ⟨S768x512, .bf16⟩
  | .local _ .vmem, ⟨8, _⟩ => ⟨S768x512, .bf16⟩
  | .local _ .vmem, ⟨9, _⟩ => ⟨S768x512, .f32⟩
  | .local _ .vmem, ⟨10, _⟩ => ⟨S768x512, .f32⟩
  | .local _ .vmem, ⟨11, _⟩ => ⟨S4x1792x128, .i32⟩
  | _, _ => ⟨S3x256x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9_0 : Ref sig .tc := ⟨.hbm, 14, rfl⟩
abbrev main_v9_1 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![37], ![false]⟩

@[reducible] def k0_t1_loop : Scf.Loop 32 :=
  let c0_i32_4 : BitVec 32 := 0#32
  let c112_i32 : BitVec 32 := 112#32
  let v16 : BitVec 32 := Scalar.addi c0_i32_4 c112_i32
  let c1_i32_5 : BitVec 32 := 1#32
  ⟨c0_i32_4, v16, c1_i32_5⟩
def k0_off1 (k0_t1 : Fin k0_t1_loop.trips) : Fin 2 → Nat :=
  let c0_i32_4 : BitVec 32 := 0#32
  let c1_i32_5 : BitVec 32 := 1#32
  let arg8 : BitVec 32 := Scf.iv c0_i32_4 c1_i32_5 k0_t1
  let c32_i32 : BitVec 32 := 32#32
  let v174 : BitVec 32 := Scalar.muli arg8 c32_i32
  let v175 : Index := Scalar.indexCast v174
  let c0_133 : Index := 0#32
  ![v175.toNat, 0]
def k0_off2 (k0_t1 : Fin k0_t1_loop.trips) (c0_i32_158 : BitVec 32) : Fin 3 → Nat :=
  let c0_159 : Index := 0#32
  let c0_i32_4 : BitVec 32 := 0#32
  let c1_i32_5 : BitVec 32 := 1#32
  let arg8 : BitVec 32 := Scf.iv c0_i32_4 c1_i32_5 k0_t1
  let c16_i32_157 : BitVec 32 := 16#32
  let v263 : BitVec 32 := Scalar.muli arg8 c16_i32_157
  let v264 : BitVec 32 := Scalar.addi v263 c0_i32_158
  let v265 : Index := Scalar.indexCast v264
  let c0_160 : Index := 0#32
  ![0, v265.toNat, 0]
@[reducible] def k0_t2_loop : Scf.Loop 32 :=
  let c0_i32_9 : BitVec 32 := 0#32
  let c112_i32_10 : BitVec 32 := 112#32
  let v23 : BitVec 32 := Scalar.addi c0_i32_9 c112_i32_10
  let c1_i32_11 : BitVec 32 := 1#32
  ⟨c0_i32_9, v23, c1_i32_11⟩
def k0_off3 (k0_t2 : Fin k0_t2_loop.trips) : Fin 2 → Nat :=
  let c0_i32_9 : BitVec 32 := 0#32
  let c1_i32_11 : BitVec 32 := 1#32
  let arg8 : BitVec 32 := Scf.iv c0_i32_9 c1_i32_11 k0_t2
  let c32_i32 : BitVec 32 := 32#32
  let v174 : BitVec 32 := Scalar.muli arg8 c32_i32
  let v175 : Index := Scalar.indexCast v174
  let c0_133 : Index := 0#32
  ![v175.toNat, 0]
def k0_off4 (k0_t2 : Fin k0_t2_loop.trips) (c0_i32_158 : BitVec 32) : Fin 3 → Nat :=
  let c1_159 : Index := 1#32
  let c0_i32_9 : BitVec 32 := 0#32
  let c1_i32_11 : BitVec 32 := 1#32
  let arg8 : BitVec 32 := Scf.iv c0_i32_9 c1_i32_11 k0_t2
  let c16_i32_157 : BitVec 32 := 16#32
  let v263 : BitVec 32 := Scalar.muli arg8 c16_i32_157
  let v264 : BitVec 32 := Scalar.addi v263 c0_i32_158
  let v265 : Index := Scalar.indexCast v264
  let c0_160 : Index := 0#32
  ![1, v265.toNat, 0]
@[reducible] def k0_t3_loop : Scf.Loop 32 :=
  let c0_i32_16 : BitVec 32 := 0#32
  let c112_i32_17 : BitVec 32 := 112#32
  let v30 : BitVec 32 := Scalar.addi c0_i32_16 c112_i32_17
  let c1_i32_18 : BitVec 32 := 1#32
  ⟨c0_i32_16, v30, c1_i32_18⟩
def k0_off5 (k0_t3 : Fin k0_t3_loop.trips) : Fin 2 → Nat :=
  let c0_i32_16 : BitVec 32 := 0#32
  let c1_i32_18 : BitVec 32 := 1#32
  let arg8 : BitVec 32 := Scf.iv c0_i32_16 c1_i32_18 k0_t3
  let c32_i32 : BitVec 32 := 32#32
  let v174 : BitVec 32 := Scalar.muli arg8 c32_i32
  let v175 : Index := Scalar.indexCast v174
  let c128_133 : Index := 128#32
  ![v175.toNat, 128]
def k0_off6 (k0_t3 : Fin k0_t3_loop.trips) (c0_i32_158 : BitVec 32) : Fin 3 → Nat :=
  let c2_159 : Index := 2#32
  let c0_i32_16 : BitVec 32 := 0#32
  let c1_i32_18 : BitVec 32 := 1#32
  let arg8 : BitVec 32 := Scf.iv c0_i32_16 c1_i32_18 k0_t3
  let c16_i32_157 : BitVec 32 := 16#32
  let v263 : BitVec 32 := Scalar.muli arg8 c16_i32_157
  let v264 : BitVec 32 := Scalar.addi v263 c0_i32_158
  let v265 : Index := Scalar.indexCast v264
  let c0_160 : Index := 0#32
  ![2, v265.toNat, 0]
@[reducible] def k0_t4_loop : Scf.Loop 32 :=
  let c0_i32_23 : BitVec 32 := 0#32
  let c112_i32_24 : BitVec 32 := 112#32
  let v37 : BitVec 32 := Scalar.addi c0_i32_23 c112_i32_24
  let c1_i32_25 : BitVec 32 := 1#32
  ⟨c0_i32_23, v37, c1_i32_25⟩
def k0_off7 (k0_t4 : Fin k0_t4_loop.trips) : Fin 2 → Nat :=
  let c0_i32_23 : BitVec 32 := 0#32
  let c1_i32_25 : BitVec 32 := 1#32
  let arg8 : BitVec 32 := Scf.iv c0_i32_23 c1_i32_25 k0_t4
  let c32_i32 : BitVec 32 := 32#32
  let v174 : BitVec 32 := Scalar.muli arg8 c32_i32
  let v175 : Index := Scalar.indexCast v174
  let c128_133 : Index := 128#32
  ![v175.toNat, 128]
def k0_off8 (k0_t4 : Fin k0_t4_loop.trips) (c0_i32_158 : BitVec 32) : Fin 3 → Nat :=
  let c3_159 : Index := 3#32
  let c0_i32_23 : BitVec 32 := 0#32
  let c1_i32_25 : BitVec 32 := 1#32
  let arg8 : BitVec 32 := Scf.iv c0_i32_23 c1_i32_25 k0_t4
  let c16_i32_157 : BitVec 32 := 16#32
  let v263 : BitVec 32 := Scalar.muli arg8 c16_i32_157
  let v264 : BitVec 32 := Scalar.addi v263 c0_i32_158
  let v265 : Index := Scalar.indexCast v264
  let c0_160 : Index := 0#32
  ![3, v265.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S768x3584 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S3584x256 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x512 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x28x8x128 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S768x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S768x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S3x256x3584 : Shape := ⟨3, ![3, 256, 3584]⟩
abbrev S3584x9472 : Shape := ⟨2, ![3584, 9472]⟩
abbrev S18944x16 : Shape := ⟨2, ![18944, 16]⟩
abbrev S33947648 : Shape := ⟨1, ![33947648]⟩
abbrev S_ : Shape := ⟨0, ![]⟩
abbrev S9472x16 : Shape := ⟨2, ![9472, 16]⟩
abbrev S9472x1 : Shape := ⟨2, ![9472, 1]⟩
abbrev S9472 : Shape := ⟨1, ![9472]⟩
abbrev S3x256x9472 : Shape := ⟨3, ![3, 256, 9472]⟩
abbrev S3x256x9472x1 : Shape := ⟨4, ![3, 256, 9472, 1]⟩
abbrev S3x256x9472x2 : Shape := ⟨4, ![3, 256, 9472, 2]⟩
abbrev S3x256x18944 : Shape := ⟨3, ![3, 256, 18944]⟩
abbrev S1184x28x8x128 : Shape := ⟨4, ![1184, 28, 8, 128]⟩
abbrev S28x128x1184x8 : Shape := ⟨4, ![28, 128, 1184, 8]⟩
abbrev S768x18944 : Shape := ⟨2, ![768, 18944]⟩

abbrev nBuf : Space → Nat
  | .hbm => 241
  | .vmem => 0
  | .smem => 0
  | _ => 0

abbrev hbmTy0_0 (i : Nat) : BufTy := match i % 128 with
  | 0 => ⟨S3x256x3584, .bf16⟩
  | 1 => ⟨S3584x9472, .i8⟩
  | 2 => ⟨S18944x16, .i16⟩
  | 3 => ⟨S33947648, .i32⟩
  | 4 => ⟨S18944x16, .bf16⟩
  | 5 => ⟨S3584x9472, .i32⟩
  | 6 => ⟨S_, .i32⟩
  | 7 => ⟨S3584x9472, .i32⟩
  | 8 => ⟨S3584x9472, .i32⟩
  | 9 => ⟨S_, .i32⟩
  | 10 => ⟨S3584x9472, .i32⟩
  | 11 => ⟨S3584x9472, .i32⟩
  | 12 => ⟨S9472x16, .bf16⟩
  | 13 => ⟨S9472x1, .bf16⟩
  | 14 => ⟨S9472, .bf16⟩
  | 15 => ⟨S9472x1, .bf16⟩
  | 16 => ⟨S9472, .bf16⟩
  | 17 => ⟨S9472x1, .bf16⟩
  | 18 => ⟨S9472, .bf16⟩
  | 19 => ⟨S9472x1, .bf16⟩
  | 20 => ⟨S9472, .bf16⟩
  | 21 => ⟨S9472x1, .bf16⟩
  | 22 => ⟨S9472, .bf16⟩
  | 23 => ⟨S9472x1, .bf16⟩
  | 24 => ⟨S9472, .bf16⟩
  | 25 => ⟨S9472x1, .bf16⟩
  | 26 => ⟨S9472, .bf16⟩
  | 27 => ⟨S9472x1, .bf16⟩
  | 28 => ⟨S9472, .bf16⟩
  | 29 => ⟨S9472x1, .bf16⟩
  | 30 => ⟨S9472, .bf16⟩
  | 31 => ⟨S9472x1, .bf16⟩
  | 32 => ⟨S9472, .bf16⟩
  | 33 => ⟨S9472x1, .bf16⟩
  | 34 => ⟨S9472, .bf16⟩
  | 35 => ⟨S9472x1, .bf16⟩
  | 36 => ⟨S9472, .bf16⟩
  | 37 => ⟨S9472x1, .bf16⟩
  | 38 => ⟨S9472, .bf16⟩
  | 39 => ⟨S9472x1, .bf16⟩
  | 40 => ⟨S9472, .bf16⟩
  | 41 => ⟨S9472x1, .bf16⟩
  | 42 => ⟨S9472, .bf16⟩
  | 43 => ⟨S9472x1, .bf16⟩
  | 44 => ⟨S9472, .bf16⟩
  | 45 => ⟨S_, .i32⟩
  | 46 => ⟨S3584x9472, .i32⟩
  | 47 => ⟨S3584x9472, .i32⟩
  | 48 => ⟨S_, .i32⟩
  | 49 => ⟨S3584x9472, .i32⟩
  | 50 => ⟨S3584x9472, .i32⟩
  | 51 => ⟨S_, .i32⟩
  | 52 => ⟨S3584x9472, .i32⟩
  | 53 => ⟨S3584x9472, .i1⟩
  | 54 => ⟨S3584x9472, .bf16⟩
  | 55 => ⟨S3584x9472, .bf16⟩
  | 56 => ⟨S3584x9472, .bf16⟩
  | 57 => ⟨S3584x9472, .bf16⟩
  | 58 => ⟨S3584x9472, .bf16⟩
  | 59 => ⟨S3584x9472, .bf16⟩
  | 60 => ⟨S3584x9472, .bf16⟩
  | 61 => ⟨S3584x9472, .bf16⟩
  | 62 => ⟨S3584x9472, .bf16⟩
  | 63 => ⟨S3584x9472, .bf16⟩
  | 64 => ⟨S3584x9472, .bf16⟩
  | 65 => ⟨S3584x9472, .bf16⟩
  | 66 => ⟨S3584x9472, .bf16⟩
  | 67 => ⟨S3584x9472, .bf16⟩
  | 68 => ⟨S3584x9472, .bf16⟩
  | 69 => ⟨S3584x9472, .bf16⟩
  | 70 => ⟨S3584x9472, .bf16⟩
  | 71 => ⟨S3584x9472, .bf16⟩
  | 72 => ⟨S3584x9472, .bf16⟩
  | 73 => ⟨S3584x9472, .bf16⟩
  | 74 => ⟨S3584x9472, .bf16⟩
  | 75 => ⟨S3584x9472, .bf16⟩
  | 76 => ⟨S3584x9472, .bf16⟩
  | 77 => ⟨S3584x9472, .bf16⟩
  | 78 => ⟨S_, .i32⟩
  | 79 => ⟨S3584x9472, .i32⟩
  | 80 => ⟨S3584x9472, .i32⟩
  | 81 => ⟨S_, .i32⟩
  | 82 => ⟨S3584x9472, .i32⟩
  | 83 => ⟨S3584x9472, .i32⟩
  | 84 => ⟨S_, .i32⟩
  | 85 => ⟨S3584x9472, .i32⟩
  | 86 => ⟨S3584x9472, .i1⟩
  | 87 => ⟨S3584x9472, .bf16⟩
  | 88 => ⟨S3584x9472, .bf16⟩
  | 89 => ⟨S3584x9472, .bf16⟩
  | 90 => ⟨S3584x9472, .bf16⟩
  | 91 => ⟨S_, .i32⟩
  | 92 => ⟨S3584x9472, .i32⟩
  | 93 => ⟨S3584x9472, .i32⟩
  | 94 => ⟨S_, .i32⟩
  | 95 => ⟨S3584x9472, .i32⟩
  | 96 => ⟨S3584x9472, .i32⟩
  | 97 => ⟨S_, .i32⟩
  | 98 => ⟨S3584x9472, .i32⟩
  | 99 => ⟨S3584x9472, .i1⟩
  | 100 => ⟨S3584x9472, .bf16⟩
  | 101 => ⟨S3584x9472, .bf16⟩
  | 102 => ⟨S_, .i32⟩
  | 103 => ⟨S3584x9472, .i32⟩
  | 104 => ⟨S3584x9472, .i32⟩
  | 105 => ⟨S_, .i32⟩
  | 106 => ⟨S3584x9472, .i32⟩
  | 107 => ⟨S3584x9472, .i32⟩
  | 108 => ⟨S_, .i32⟩
  | 109 => ⟨S3584x9472, .i32⟩
  | 110 => ⟨S3584x9472, .i1⟩
  | 111 => ⟨S3584x9472, .bf16⟩
  | 112 => ⟨S9472x16, .bf16⟩
  | 113 => ⟨S9472x1, .bf16⟩
  | 114 => ⟨S9472, .bf16⟩
  | 115 => ⟨S9472x1, .bf16⟩
  | 116 => ⟨S9472, .bf16⟩
  | 117 => ⟨S9472x1, .bf16⟩
  | 118 => ⟨S9472, .bf16⟩
  | 119 => ⟨S9472x1, .bf16⟩
  | 120 => ⟨S9472, .bf16⟩
  | 121 => ⟨S9472x1, .bf16⟩
  | 122 => ⟨S9472, .bf16⟩
  | 123 => ⟨S9472x1, .bf16⟩
  | 124 => ⟨S9472, .bf16⟩
  | 125 => ⟨S9472x1, .bf16⟩
  | 126 => ⟨S9472, .bf16⟩
  | 127 => ⟨S9472x1, .bf16⟩
  | _ => ⟨S3x256x3584, .bf16⟩

abbrev hbmTy0_1 (i : Nat) : BufTy := match i % 128 with
  | 0 => ⟨S9472, .bf16⟩
  | 1 => ⟨S9472x1, .bf16⟩
  | 2 => ⟨S9472, .bf16⟩
  | 3 => ⟨S9472x1, .bf16⟩
  | 4 => ⟨S9472, .bf16⟩
  | 5 => ⟨S9472x1, .bf16⟩
  | 6 => ⟨S9472, .bf16⟩
  | 7 => ⟨S9472x1, .bf16⟩
  | 8 => ⟨S9472, .bf16⟩
  | 9 => ⟨S9472x1, .bf16⟩
  | 10 => ⟨S9472, .bf16⟩
  | 11 => ⟨S9472x1, .bf16⟩
  | 12 => ⟨S9472, .bf16⟩
  | 13 => ⟨S9472x1, .bf16⟩
  | 14 => ⟨S9472, .bf16⟩
  | 15 => ⟨S9472x1, .bf16⟩
  | 16 => ⟨S9472, .bf16⟩
  | 17 => ⟨S_, .i32⟩
  | 18 => ⟨S3584x9472, .i32⟩
  | 19 => ⟨S3584x9472, .i32⟩
  | 20 => ⟨S_, .i32⟩
  | 21 => ⟨S3584x9472, .i32⟩
  | 22 => ⟨S3584x9472, .i32⟩
  | 23 => ⟨S_, .i32⟩
  | 24 => ⟨S3584x9472, .i32⟩
  | 25 => ⟨S3584x9472, .i1⟩
  | 26 => ⟨S3584x9472, .bf16⟩
  | 27 => ⟨S3584x9472, .bf16⟩
  | 28 => ⟨S3584x9472, .bf16⟩
  | 29 => ⟨S3584x9472, .bf16⟩
  | 30 => ⟨S3584x9472, .bf16⟩
  | 31 => ⟨S3584x9472, .bf16⟩
  | 32 => ⟨S3584x9472, .bf16⟩
  | 33 => ⟨S3584x9472, .bf16⟩
  | 34 => ⟨S3584x9472, .bf16⟩
  | 35 => ⟨S3584x9472, .bf16⟩
  | 36 => ⟨S3584x9472, .bf16⟩
  | 37 => ⟨S3584x9472, .bf16⟩
  | 38 => ⟨S3584x9472, .bf16⟩
  | 39 => ⟨S3584x9472, .bf16⟩
  | 40 => ⟨S3584x9472, .bf16⟩
  | 41 => ⟨S3584x9472, .bf16⟩
  | 42 => ⟨S3584x9472, .bf16⟩
  | 43 => ⟨S3584x9472, .bf16⟩
  | 44 => ⟨S3584x9472, .bf16⟩
  | 45 => ⟨S3584x9472, .bf16⟩
  | 46 => ⟨S3584x9472, .bf16⟩
  | 47 => ⟨S3584x9472, .bf16⟩
  | 48 => ⟨S3584x9472, .bf16⟩
  | 49 => ⟨S3584x9472, .bf16⟩
  | 50 => ⟨S_, .i32⟩
  | 51 => ⟨S3584x9472, .i32⟩
  | 52 => ⟨S3584x9472, .i32⟩
  | 53 => ⟨S_, .i32⟩
  | 54 => ⟨S3584x9472, .i32⟩
  | 55 => ⟨S3584x9472, .i32⟩
  | 56 => ⟨S_, .i32⟩
  | 57 => ⟨S3584x9472, .i32⟩
  | 58 => ⟨S3584x9472, .i1⟩
  | 59 => ⟨S3584x9472, .bf16⟩
  | 60 => ⟨S3584x9472, .bf16⟩
  | 61 => ⟨S3584x9472, .bf16⟩
  | 62 => ⟨S3584x9472, .bf16⟩
  | 63 => ⟨S_, .i32⟩
  | 64 => ⟨S3584x9472, .i32⟩
  | 65 => ⟨S3584x9472, .i32⟩
  | 66 => ⟨S_, .i32⟩
  | 67 => ⟨S3584x9472, .i32⟩
  | 68 => ⟨S3584x9472, .i32⟩
  | 69 => ⟨S_, .i32⟩
  | 70 => ⟨S3584x9472, .i32⟩
  | 71 => ⟨S3584x9472, .i1⟩
  | 72 => ⟨S3584x9472, .bf16⟩
  | 73 => ⟨S3584x9472, .bf16⟩
  | 74 => ⟨S_, .i32⟩
  | 75 => ⟨S3584x9472, .i32⟩
  | 76 => ⟨S3584x9472, .i32⟩
  | 77 => ⟨S_, .i32⟩
  | 78 => ⟨S3584x9472, .i32⟩
  | 79 => ⟨S3584x9472, .i32⟩
  | 80 => ⟨S_, .i32⟩
  | 81 => ⟨S3584x9472, .i32⟩
  | 82 => ⟨S3584x9472, .i1⟩
  | 83 => ⟨S3584x9472, .bf16⟩
  | 84 => ⟨S3x256x9472, .f32⟩
  | 85 => ⟨S3x256x9472, .f32⟩
  | 86 => ⟨S3x256x9472x1, .f32⟩
  | 87 => ⟨S3x256x9472x1, .f32⟩
  | 88 => ⟨S3x256x9472x2, .f32⟩
  | 89 => ⟨S3x256x18944, .f32⟩
  | 90 => ⟨S1184x28x8x128, .i32⟩
  | 91 => ⟨S28x128x1184x8, .i32⟩
  | 92 => ⟨S3584x9472, .i32⟩
  | 93 => ⟨S_, .i32⟩
  | 94 => ⟨S3584x9472, .i32⟩
  | 95 => ⟨S3584x9472, .i32⟩
  | 96 => ⟨S3584x9472, .i16⟩
  | 97 => ⟨S3584x9472, .bf16⟩
  | 98 => ⟨S_, .i32⟩
  | 99 => ⟨S3584x9472, .i32⟩
  | 100 => ⟨S3584x9472, .i32⟩
  | 101 => ⟨S3584x9472, .i16⟩
  | 102 => ⟨S3584x9472, .bf16⟩
  | 103 => ⟨S3x256x9472, .f32⟩
  | 104 => ⟨S3x256x9472, .f32⟩
  | 105 => ⟨S3x256x9472x1, .f32⟩
  | 106 => ⟨S3x256x9472x1, .f32⟩
  | 107 => ⟨S3x256x9472x2, .f32⟩
  | 108 => ⟨S3x256x18944, .f32⟩
  | 109 => ⟨S3x256x18944, .f32⟩
  | 110 => ⟨S3x256x18944, .bf16⟩
  | 111 => ⟨S768x18944, .bf16⟩
  | 112 => ⟨S768x18944, .f32⟩
  | _ => ⟨S3x256x3584, .bf16⟩

abbrev hbmTy (i : Nat) : BufTy := match i / 128 with
  | 0 => hbmTy0_0 i
  | 1 => hbmTy0_1 i
  | _ => ⟨S3x256x3584, .bf16⟩

abbrev bufTy : (tb : Table) → Fin (tcTables nBuf tb) → BufTy
  | .hbm, ⟨i, _⟩ => hbmTy i
  | _, _ => ⟨S3x256x3584, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_c_1 : Ref sig .tc := ⟨.hbm, 45, rfl⟩
abbrev main_v39 : Ref sig .tc := ⟨.hbm, 46, rfl⟩
abbrev main_v40 : Ref sig .tc := ⟨.hbm, 47, rfl⟩
abbrev main_c_2 : Ref sig .tc := ⟨.hbm, 48, rfl⟩
abbrev main_v41 : Ref sig .tc := ⟨.hbm, 49, rfl⟩
abbrev main_v42 : Ref sig .tc := ⟨.hbm, 50, rfl⟩
abbrev main_c_3 : Ref sig .tc := ⟨.hbm, 51, rfl⟩
abbrev main_v43 : Ref sig .tc := ⟨.hbm, 52, rfl⟩
abbrev main_v44 : Ref sig .tc := ⟨.hbm, 53, rfl⟩
abbrev main_call0_v0 : Ref sig .tc := ⟨.hbm, 54, rfl⟩
abbrev main_call0_v1 : Ref sig .tc := ⟨.hbm, 55, rfl⟩
abbrev main_v45 : Ref sig .tc := ⟨.hbm, 56, rfl⟩
abbrev main_call1_v0 : Ref sig .tc := ⟨.hbm, 57, rfl⟩
abbrev main_call1_v1 : Ref sig .tc := ⟨.hbm, 58, rfl⟩
abbrev main_v46 : Ref sig .tc := ⟨.hbm, 59, rfl⟩
abbrev main_call2_v0 : Ref sig .tc := ⟨.hbm, 60, rfl⟩
abbrev main_call2_v1 : Ref sig .tc := ⟨.hbm, 61, rfl⟩
abbrev main_v47 : Ref sig .tc := ⟨.hbm, 62, rfl⟩
abbrev main_call3_v0 : Ref sig .tc := ⟨.hbm, 63, rfl⟩
abbrev main_call3_v1 : Ref sig .tc := ⟨.hbm, 64, rfl⟩
abbrev main_v48 : Ref sig .tc := ⟨.hbm, 65, rfl⟩
abbrev main_call4_v0 : Ref sig .tc := ⟨.hbm, 66, rfl⟩
abbrev main_call4_v1 : Ref sig .tc := ⟨.hbm, 67, rfl⟩
abbrev main_v49 : Ref sig .tc := ⟨.hbm, 68, rfl⟩
abbrev main_call5_v0 : Ref sig .tc := ⟨.hbm, 69, rfl⟩
abbrev main_call5_v1 : Ref sig .tc := ⟨.hbm, 70, rfl⟩
abbrev main_v50 : Ref sig .tc := ⟨.hbm, 71, rfl⟩
abbrev main_call6_v0 : Ref sig .tc := ⟨.hbm, 72, rfl⟩
abbrev main_call6_v1 : Ref sig .tc := ⟨.hbm, 73, rfl⟩
abbrev main_v51 : Ref sig .tc := ⟨.hbm, 74, rfl⟩
abbrev main_call7_v0 : Ref sig .tc := ⟨.hbm, 75, rfl⟩
abbrev main_call7_v1 : Ref sig .tc := ⟨.hbm, 76, rfl⟩
abbrev main_v52 : Ref sig .tc := ⟨.hbm, 77, rfl⟩
abbrev main_c_4 : Ref sig .tc := ⟨.hbm, 78, rfl⟩
abbrev main_v53 : Ref sig .tc := ⟨.hbm, 79, rfl⟩
abbrev main_v54 : Ref sig .tc := ⟨.hbm, 80, rfl⟩
abbrev main_c_5 : Ref sig .tc := ⟨.hbm, 81, rfl⟩
abbrev main_v55 : Ref sig .tc := ⟨.hbm, 82, rfl⟩
abbrev main_v56 : Ref sig .tc := ⟨.hbm, 83, rfl⟩
abbrev main_c_6 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_c_7 : Ref sig .tc := ⟨.hbm, 91, rfl⟩
abbrev main_v63 : Ref sig .tc := ⟨.hbm, 92, rfl⟩
abbrev main_v64 : Ref sig .tc := ⟨.hbm, 93, rfl⟩
abbrev main_c_8 : Ref sig .tc := ⟨.hbm, 94, rfl⟩
abbrev main_v65 : Ref sig .tc := ⟨.hbm, 95, rfl⟩
abbrev main_v66 : Ref sig .tc := ⟨.hbm, 96, rfl⟩
abbrev main_c_9 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_c_10 : Ref sig .tc := ⟨.hbm, 102, rfl⟩
abbrev main_v71 : Ref sig .tc := ⟨.hbm, 103, rfl⟩
abbrev main_v72 : Ref sig .tc := ⟨.hbm, 104, rfl⟩
abbrev main_c_11 : Ref sig .tc := ⟨.hbm, 105, rfl⟩
abbrev main_v73 : Ref sig .tc := ⟨.hbm, 106, rfl⟩
abbrev main_v74 : Ref sig .tc := ⟨.hbm, 107, rfl⟩
abbrev main_c_12 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_c_13 : Ref sig .tc := ⟨.hbm, 145, rfl⟩
abbrev main_v111 : Ref sig .tc := ⟨.hbm, 146, rfl⟩
abbrev main_v112 : Ref sig .tc := ⟨.hbm, 147, rfl⟩
abbrev main_c_14 : Ref sig .tc := ⟨.hbm, 148, rfl⟩
abbrev main_v113 : Ref sig .tc := ⟨.hbm, 149, rfl⟩
abbrev main_v114 : Ref sig .tc := ⟨.hbm, 150, rfl⟩
abbrev main_c_15 : Ref sig .tc := ⟨.hbm, 151, rfl⟩
abbrev main_v115 : Ref sig .tc := ⟨.hbm, 152, rfl⟩
abbrev main_v116 : Ref sig .tc := ⟨.hbm, 153, rfl⟩
abbrev main_call15_v0 : Ref sig .tc := ⟨.hbm, 154, rfl⟩
abbrev main_call15_v1 : Ref sig .tc := ⟨.hbm, 155, rfl⟩
abbrev main_v117 : Ref sig .tc := ⟨.hbm, 156, rfl⟩
abbrev main_call16_v0 : Ref sig .tc := ⟨.hbm, 157, rfl⟩
abbrev main_call16_v1 : Ref sig .tc := ⟨.hbm, 158, rfl⟩
abbrev main_v118 : Ref sig .tc := ⟨.hbm, 159, rfl⟩
abbrev main_call17_v0 : Ref sig .tc := ⟨.hbm, 160, rfl⟩
abbrev main_call17_v1 : Ref sig .tc := ⟨.hbm, 161, rfl⟩
abbrev main_v119 : Ref sig .tc := ⟨.hbm, 162, rfl⟩
abbrev main_call18_v0 : Ref sig .tc := ⟨.hbm, 163, rfl⟩
abbrev main_call18_v1 : Ref sig .tc := ⟨.hbm, 164, rfl⟩
abbrev main_v120 : Ref sig .tc := ⟨.hbm, 165, rfl⟩
abbrev main_call19_v0 : Ref sig .tc := ⟨.hbm, 166, rfl⟩
abbrev main_call19_v1 : Ref sig .tc := ⟨.hbm, 167, rfl⟩
abbrev main_v121 : Ref sig .tc := ⟨.hbm, 168, rfl⟩
abbrev main_call20_v0 : Ref sig .tc := ⟨.hbm, 169, rfl⟩
abbrev main_call20_v1 : Ref sig .tc := ⟨.hbm, 170, rfl⟩
abbrev main_v122 : Ref sig .tc := ⟨.hbm, 171, rfl⟩
abbrev main_call21_v0 : Ref sig .tc := ⟨.hbm, 172, rfl⟩
abbrev main_call21_v1 : Ref sig .tc := ⟨.hbm, 173, rfl⟩
abbrev main_v123 : Ref sig .tc := ⟨.hbm, 174, rfl⟩
abbrev main_call22_v0 : Ref sig .tc := ⟨.hbm, 175, rfl⟩
abbrev main_call22_v1 : Ref sig .tc := ⟨.hbm, 176, rfl⟩
abbrev main_v124 : Ref sig .tc := ⟨.hbm, 177, rfl⟩
abbrev main_c_16 : Ref sig .tc := ⟨.hbm, 178, rfl⟩
abbrev main_v125 : Ref sig .tc := ⟨.hbm, 179, rfl⟩
abbrev main_v126 : Ref sig .tc := ⟨.hbm, 180, rfl⟩
abbrev main_c_17 : Ref sig .tc := ⟨.hbm, 181, rfl⟩
abbrev main_v127 : Ref sig .tc := ⟨.hbm, 182, rfl⟩
abbrev main_v128 : Ref sig .tc := ⟨.hbm, 183, rfl⟩
abbrev main_c_18 : Ref sig .tc := ⟨.hbm, 184, rfl⟩
abbrev main_v129 : Ref sig .tc := ⟨.hbm, 185, rfl⟩
abbrev main_v130 : Ref sig .tc := ⟨.hbm, 186, rfl⟩
abbrev main_v131 : Ref sig .tc := ⟨.hbm, 187, rfl⟩
abbrev main_v132 : Ref sig .tc := ⟨.hbm, 188, rfl⟩
abbrev main_v133 : Ref sig .tc := ⟨.hbm, 189, rfl⟩
abbrev main_v134 : Ref sig .tc := ⟨.hbm, 190, rfl⟩
abbrev main_c_19 : Ref sig .tc := ⟨.hbm, 191, rfl⟩
abbrev main_v135 : Ref sig .tc := ⟨.hbm, 192, rfl⟩
abbrev main_v136 : Ref sig .tc := ⟨.hbm, 193, rfl⟩
abbrev main_c_20 : Ref sig .tc := ⟨.hbm, 194, rfl⟩
abbrev main_v137 : Ref sig .tc := ⟨.hbm, 195, rfl⟩
abbrev main_v138 : Ref sig .tc := ⟨.hbm, 196, rfl⟩
abbrev main_c_21 : Ref sig .tc := ⟨.hbm, 197, rfl⟩
abbrev main_v139 : Ref sig .tc := ⟨.hbm, 198, rfl⟩
abbrev main_v140 : Ref sig .tc := ⟨.hbm, 199, rfl⟩
abbrev main_v141 : Ref sig .tc := ⟨.hbm, 200, rfl⟩
abbrev main_v142 : Ref sig .tc := ⟨.hbm, 201, rfl⟩
abbrev main_c_22 : Ref sig .tc := ⟨.hbm, 202, rfl⟩
abbrev main_v143 : Ref sig .tc := ⟨.hbm, 203, rfl⟩
abbrev main_v144 : Ref sig .tc := ⟨.hbm, 204, rfl⟩
abbrev main_c_23 : Ref sig .tc := ⟨.hbm, 205, rfl⟩
abbrev main_v145 : Ref sig .tc := ⟨.hbm, 206, rfl⟩
abbrev main_v146 : Ref sig .tc := ⟨.hbm, 207, rfl⟩
abbrev main_c_24 : Ref sig .tc := ⟨.hbm, 208, rfl⟩
abbrev main_v147 : Ref sig .tc := ⟨.hbm, 209, rfl⟩
abbrev main_v148 : Ref sig .tc := ⟨.hbm, 210, rfl⟩
abbrev main_v149 : Ref sig .tc := ⟨.hbm, 211, rfl⟩
abbrev main_v150 : Ref sig .tc := ⟨.hbm, 212, rfl⟩
abbrev main_v151 : Ref sig .tc := ⟨.hbm, 213, rfl⟩
abbrev main_v152 : Ref sig .tc := ⟨.hbm, 214, rfl⟩
abbrev main_v153 : Ref sig .tc := ⟨.hbm, 215, rfl⟩
abbrev main_v154 : Ref sig .tc := ⟨.hbm, 216, rfl⟩
abbrev main_v155 : Ref sig .tc := ⟨.hbm, 217, rfl⟩
abbrev main_v156 : Ref sig .tc := ⟨.hbm, 218, rfl⟩
abbrev main_v157 : Ref sig .tc := ⟨.hbm, 219, rfl⟩
abbrev main_v158 : Ref sig .tc := ⟨.hbm, 220, rfl⟩
abbrev main_c_25 : Ref sig .tc := ⟨.hbm, 221, rfl⟩
abbrev main_v159 : Ref sig .tc := ⟨.hbm, 222, rfl⟩
abbrev main_v160 : Ref sig .tc := ⟨.hbm, 223, rfl⟩
abbrev main_v161 : Ref sig .tc := ⟨.hbm, 224, rfl⟩
abbrev main_v162 : Ref sig .tc := ⟨.hbm, 225, rfl⟩
abbrev main_c_26 : Ref sig .tc := ⟨.hbm, 226, rfl⟩
abbrev main_v163 : Ref sig .tc := ⟨.hbm, 227, rfl⟩
abbrev main_v164 : Ref sig .tc := ⟨.hbm, 228, rfl⟩
abbrev main_v165 : Ref sig .tc := ⟨.hbm, 229, rfl⟩
abbrev main_v166 : Ref sig .tc := ⟨.hbm, 230, rfl⟩
abbrev main_v167 : Ref sig .tc := ⟨.hbm, 231, rfl⟩
abbrev main_v168 : Ref sig .tc := ⟨.hbm, 232, rfl⟩
abbrev main_v169 : Ref sig .tc := ⟨.hbm, 233, rfl⟩
abbrev main_v170 : Ref sig .tc := ⟨.hbm, 234, rfl⟩
abbrev main_v171 : Ref sig .tc := ⟨.hbm, 235, rfl⟩
abbrev main_v172 : Ref sig .tc := ⟨.hbm, 236, rfl⟩
abbrev main_v173 : Ref sig .tc := ⟨.hbm, 237, rfl⟩
abbrev main_v174 : Ref sig .tc := ⟨.hbm, 238, rfl⟩
abbrev main_v175 : Ref sig .tc := ⟨.hbm, 239, rfl⟩
abbrev main_v176 : Ref sig .tc := ⟨.hbm, 240, rfl⟩

abbrev nD : Nat := 1
abbrev τ : Topo := Topo.v7x

variable {F : FTy → Type} [FloatOps F]
-- ==== Proof.K.Trip.lean ====
/-
  The dense decode's four counted loops. Each loop fills one plane of the scratch `arg7` (a `4 × 1792 × 128` array
  of words): trip `r` loads rows `32r … 32r + 31` of a 128-column tile of the codes and stores two interleaved `8 × 128` blocks, into the
  even rows and into the odd rows of `16r … 16r + 15`. `fill` names what the plane holds after `k` trips; the loop's invariant is that
  the scratch reads `fill … k`.
-/
module

public import proofs.«01_k».proof.Proof.Gen.Kernel.Loops
public import proofs.«01_k».proof.Proof.Gen.Kernel.Frame
public import Idealize.ShloMosaic.Lib.ValueIdx
public import Idealize.ShloMosaic.Lib.Pointwise

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What one trip stores -/

/-- The block a trip stores into its even rows: of the word loaded at a lane, the entries of its bytes 0 and 1, packed. -/
def stored0 (v5 : IVec S16x128 1) (v9 v11 v15 : IVec S8x128 32) (v176 : Vec F S32x128 .i8) : IVec S8x128 32 :=
  k0_pay11 v5 (k0_pay5 v9 v11 v15 v176) (k0_pay7 v9 v11 v15 v176) (k0_pay8 v9 v15 v176)

/-- The block a trip stores into its odd rows: the entries of bytes 2 and 3, packed. -/
def stored1 (v5 : IVec S16x128 1) (v9 v11 v15 : IVec S8x128 32) (v176 : Vec F S32x128 .i8) : IVec S8x128 32 :=
  bitcast S8x128 32 (select v5
    (bitcast S16x128 16 (k0_pay9 v11 (k0_pay4 v9 v15 v176)) bitcasts_S8x128_w32_S16x128_w16)
    (bitcast S16x128 16 (k0_pay10 v11 (k0_pay4 v9 v15 v176)) bitcasts_S8x128_w32_S16x128_w16)) bitcasts_S16x128_w16_S8x128_w32

/-- Rows `32r … 32r + 31` of the codes' tile of columns `col … col + 127`. -/
def codesBlk (cd : Vec F S3584x256 .i8) (r col : ℕ) : Vec F S32x128 .i8 := fun y =>
  cd (ix2 ⟨(32 * r + (y 0).val) % 3584, Nat.mod_lt _ (by decide)⟩ ⟨(col + (y 1).val) % 256, Nat.mod_lt _ (by decide)⟩)

/-- Plane `g` of `old` with its first `16k` rows filled, row `16r + 2i + q` by row `i` of trip `r`'s block `q`. -/
def fill (old : IVec S4x1792x128 32) (g : ℕ) (w0 w1 : ℕ → IVec S8x128 32) (k : ℕ) : IVec S4x1792x128 32 := fun x =>
  if (x 0).val = g ∧ (x 1).val < 16 * k then
    if (x 1).val % 2 = 0 then w0 ((x 1).val / 16) (ix2 ⟨(x 1).val % 16 / 2, by omega⟩ (x 2))
    else w1 ((x 1).val / 16) (ix2 ⟨(x 1).val % 16 / 2, by omega⟩ (x 2))
  else old x

theorem fill_zero (old : IVec S4x1792x128 32) (g : ℕ) (w0 w1 : ℕ → IVec S8x128 32) : fill old g w0 w1 0 = old := by
  funext x; unfold fill; rw [if_neg (by omega)]

/-- Two layers of writes over `fill … k`, at the elements `e0` and `e1` name (the even and the odd rows of the next sixteen), are `fill … (k + 1)`. -/
theorem fill_succ (old : IVec S4x1792x128 32) (g k : ℕ) (w0 w1 : ℕ → IVec S8x128 32) (e0 e1 : S1x8x128.Idx → S4x1792x128.Idx)
    (e00 : ∀ y, (e0 y 0).val = g + (y 0).val) (e01 : ∀ y, (e0 y 1).val = 16 * k + 2 * (y 1).val) (e02 : ∀ y, (e0 y 2).val = (y 2).val)
    (e10 : ∀ y, (e1 y 0).val = g + (y 0).val) (e11 : ∀ y, (e1 y 1).val = 16 * k + 1 + 2 * (y 1).val) (e12 : ∀ y, (e1 y 2).val = (y 2).val)
    (p0 p1 : IVec S1x8x128 32) (h0 : ∀ i l, p0 (ix3 0 i l) = w0 k (ix2 i l)) (h1 : ∀ i l, p1 (ix3 0 i l) = w1 k (ix2 i l))
    (mid new : IVec S4x1792x128 32) (hit1 : ∀ y, new (e1 y) = p1 y) (miss1 : ∀ z, (∀ y, e1 y ≠ z) → new z = mid z)
    (hit0 : ∀ y, mid (e0 y) = p0 y) (miss0 : ∀ z, (∀ y, e0 y ≠ z) → mid z = fill old g w0 w1 k z) :
    new = fill old g w0 w1 (k + 1) := by
  funext x
  have n0 : (x 1).val % 2 ≠ 0 ∨ ¬ ((x 0).val = g ∧ 16 * k ≤ (x 1).val ∧ (x 1).val < 16 * k + 16) → ∀ y, e0 y ≠ x := by
    intro h y hy
    have a0 := e00 y; have a1 := e01 y
    rw [hy] at a0 a1
    have b0 : (y 0).val < 1 := (y 0).isLt
    have b1 : (y 1).val < 8 := (y 1).isLt
    omega
  have n1 : (x 1).val % 2 = 0 ∨ ¬ ((x 0).val = g ∧ 16 * k ≤ (x 1).val ∧ (x 1).val < 16 * k + 16) → ∀ y, e1 y ≠ x := by
    intro h y hy
    have a0 := e10 y; have a1 := e11 y
    rw [hy] at a0 a1
    have b0 : (y 0).val < 1 := (y 0).isLt
    have b1 : (y 1).val < 8 := (y 1).isLt
    omega
  by_cases hx : (x 0).val = g ∧ 16 * k ≤ (x 1).val ∧ (x 1).val < 16 * k + 16
  · have hr : (x 1).val / 16 = k := by omega
    have hin : (x 0).val = g ∧ (x 1).val < 16 * (k + 1) := by omega
    by_cases hq : (x 1).val % 2 = 0
    · have e : e0 (ix3 0 ⟨(x 1).val % 16 / 2, by omega⟩ ⟨(x 2).val, (x 2).isLt⟩) = x := by
        funext a; apply Fin.ext
        match a with
        | ⟨0, _⟩ => exact (e00 _).trans hx.1.symm
        | ⟨1, _⟩ => refine (e01 _).trans ?_; show 16 * k + 2 * ((x 1).val % 16 / 2) = (x 1).val; omega
        | ⟨2, _⟩ => exact e02 _
      rw [miss1 x (n1 (.inl hq))]
      refine (congrArg mid e.symm).trans ((hit0 _).trans ((h0 _ _).trans ?_))
      unfold fill; rw [if_pos hin, if_pos hq, hr]; rfl
    · have e : e1 (ix3 0 ⟨(x 1).val % 16 / 2, by omega⟩ ⟨(x 2).val, (x 2).isLt⟩) = x := by
        funext a; apply Fin.ext
        match a with
        | ⟨0, _⟩ => exact (e10 _).trans hx.1.symm
        | ⟨1, _⟩ => refine (e11 _).trans ?_; show 16 * k + 1 + 2 * ((x 1).val % 16 / 2) = (x 1).val; omega
        | ⟨2, _⟩ => exact e12 _
      refine (congrArg new e.symm).trans ((hit1 _).trans ((h1 _ _).trans ?_))
      unfold fill; rw [if_pos hin, if_neg hq, hr]; rfl
  · rw [miss1 x (n1 (.inr hx)), miss0 x (n0 (.inr hx))]
    unfold fill
    by_cases hg : (x 0).val = g ∧ (x 1).val < 16 * k
    · have hg' : (x 0).val = g ∧ (x 1).val < 16 * (k + 1) := ⟨hg.1, by omega⟩
      rw [if_pos hg, if_pos hg']
    · have hg' : ¬ ((x 0).val = g ∧ (x 1).val < 16 * (k + 1)) := by omega
      rw [if_neg hg, if_neg hg']

/-- The two strided stores of a trip take `fill … k` to `fill … (k + 1)`. -/
theorem read_fill_succ {sp : Space} (arg7 : Memref sig .tc sp S4x1792x128 .i32) (f7 : arg7.view.ty.Contents (Elt F))
    (old : IVec S4x1792x128 32) (g k : ℕ) (w0 w1 : ℕ → IVec S8x128 32) (o0 o1 : Fin 3 → ℕ) (ho0 : o0 = ![g, 16 * k, 0]) (ho1 : o1 = ![g, 16 * k + 1, 0])
    (inb0 : ∀ a, S1x8x128.size a = 0 ∨ o0 a + (![1, 2, 1] : Fin 3 → ℕ) a * (S1x8x128.size a - 1) < S4x1792x128.size a)
    (inb1 : ∀ a, S1x8x128.size a = 0 ∨ o1 a + (![1, 2, 1] : Fin 3 → ℕ) a * (S1x8x128.size a - 1) < S4x1792x128.size a) (p0 p1 : IVec S1x8x128 32) (h0 : ∀ i l, p0 (ix3 0 i l) = w0 k (ix2 i l)) (h1 : ∀ i l, p1 (ix3 0 i l) = w1 k (ix2 i l))
    (hf : arg7.view.read (Elt F) f7 = fill old g w0 w1 k) :
    arg7.view.read (Elt F) (arg7.view.writes (Elt F) f7
      [⟨⟨(⟨o1, S1x8x128.size, ![1, 2, 1], inb1⟩ : LoadRect S4x1792x128), spos_1_2_1⟩, p1⟩,
       ⟨⟨(⟨o0, S1x8x128.size, ![1, 2, 1], inb0⟩ : LoadRect S4x1792x128), spos_1_2_1⟩, p0⟩])
      = fill old g w0 w1 (k + 1) := by
  subst ho0 ho1
  have miss (r : Rect S4x1792x128) (w : r.shape.Idx → Elt F .i32) (L) (z : S4x1792x128.Idx) (hn : ∀ y, r.emb y ≠ z) :
      arg7.view.read (Elt F) (arg7.view.writes (Elt F) f7 (⟨r, w⟩ :: L)) z = arg7.view.read (Elt F) (arg7.view.writes (Elt F) f7 L) z := by
    rw [View.writes_cons]
    exact View.read_slice_write_of_not_mem _ _ _ _ fun hm => by
      obtain ⟨y, -, hy⟩ := Finset.mem_map.mp hm; exact hn y hy
  have hit (r : Rect S4x1792x128) (w : r.shape.Idx → Elt F .i32) (L) (y) :
      arg7.view.read (Elt F) (arg7.view.writes (Elt F) f7 (⟨r, w⟩ :: L)) (r.emb y) = w y := View.read_writes_cons_emb arg7.view f7 r w L y
  have ev (o : Fin 3 → ℕ) (inb : ∀ a, S1x8x128.size a = 0 ∨ o a + (![1, 2, 1] : Fin 3 → ℕ) a * (S1x8x128.size a - 1) < S4x1792x128.size a) (y : S1x8x128.Idx) (a : Fin 3) :
      ((⟨(⟨o, S1x8x128.size, ![1, 2, 1], inb⟩ : LoadRect S4x1792x128), spos_1_2_1⟩ : Rect S4x1792x128).emb y a).val
        = o a + (![1, 2, 1] : Fin 3 → ℕ) a * (y a).val := rfl
  have v0 (o : ℕ) (n : ℕ) : (![g, o, 0] : Fin 3 → ℕ) 0 + (![1, 2, 1] : Fin 3 → ℕ) 0 * n = g + n := by
    show g + 1 * n = _; omega
  have v1 (o : ℕ) (n : ℕ) : (![g, o, 0] : Fin 3 → ℕ) 1 + (![1, 2, 1] : Fin 3 → ℕ) 1 * n = o + 2 * n := rfl
  have v2 (o : ℕ) (n : ℕ) : (![g, o, 0] : Fin 3 → ℕ) 2 + (![1, 2, 1] : Fin 3 → ℕ) 2 * n = n := by
    show 0 + 1 * n = _; omega
  refine fill_succ old g k w0 w1
    (fun y => (⟨(⟨![g, 16 * k, 0], S1x8x128.size, ![1, 2, 1], inb0⟩ : LoadRect S4x1792x128), spos_1_2_1⟩ : Rect S4x1792x128).emb y)
    (fun y => (⟨(⟨![g, 16 * k + 1, 0], S1x8x128.size, ![1, 2, 1], inb1⟩ : LoadRect S4x1792x128), spos_1_2_1⟩ : Rect S4x1792x128).emb y)
    (fun y => ?_) (fun y => ?_) (fun y => ?_) (fun y => ?_) (fun y => ?_) (fun y => ?_) p0 p1 h0 h1
    (arg7.view.read (Elt F) (arg7.view.writes (Elt F) f7
      [⟨⟨(⟨![g, 16 * k, 0], S1x8x128.size, ![1, 2, 1], inb0⟩ : LoadRect S4x1792x128), spos_1_2_1⟩, p0⟩])) _
    ?_ ?_ ?_ ?_
  · exact (ev _ inb0 y 0).trans (v0 _ _)
  · exact (ev _ inb0 y 1).trans (v1 _ _)
  · exact (ev _ inb0 y 2).trans (v2 _ _)
  · exact (ev _ inb1 y 0).trans (v0 _ _)
  · exact (ev _ inb1 y 1).trans (v1 _ _)
  · exact (ev _ inb1 y 2).trans (v2 _ _)
  · exact hit (⟨(⟨![g, 16 * k + 1, 0], S1x8x128.size, ![1, 2, 1], inb1⟩ : LoadRect S4x1792x128), spos_1_2_1⟩ : Rect S4x1792x128) p1 [⟨(⟨(⟨![g, 16 * k, 0], S1x8x128.size, ![1, 2, 1], inb0⟩ : LoadRect S4x1792x128), spos_1_2_1⟩ : Rect S4x1792x128), p0⟩]
  · exact fun z hz => miss (⟨(⟨![g, 16 * k + 1, 0], S1x8x128.size, ![1, 2, 1], inb1⟩ : LoadRect S4x1792x128), spos_1_2_1⟩ : Rect S4x1792x128) p1 [⟨(⟨(⟨![g, 16 * k, 0], S1x8x128.size, ![1, 2, 1], inb0⟩ : LoadRect S4x1792x128), spos_1_2_1⟩ : Rect S4x1792x128), p0⟩] z hz
  · exact hit (⟨(⟨![g, 16 * k, 0], S1x8x128.size, ![1, 2, 1], inb0⟩ : LoadRect S4x1792x128), spos_1_2_1⟩ : Rect S4x1792x128) p0 []
  · exact fun z hz => (miss (⟨(⟨![g, 16 * k, 0], S1x8x128.size, ![1, 2, 1], inb0⟩ : LoadRect S4x1792x128), spos_1_2_1⟩ : Rect S4x1792x128) p0 [] z hz).trans (congrFun hf z)

/-- A trip's load of the codes through the rectangle at `![32r, col]` is its block. -/
theorem readAt_codes {sp : Space} (arg2 : Memref sig .tc sp S3584x256 .i8) (f2 : arg2.view.ty.Contents (Elt F)) (r col : ℕ) (o : Fin 2 → ℕ)
    (ho : o = ![32 * r, col]) (inb) :
    arg2.view.readAt (Elt F) (Rect.unit (s := S3584x256) o ![32, 128] inb).toLoadRect f2 = codesBlk (arg2.view.read (Elt F) f2) r col := by
  subst ho
  funext y
  rw [View.readAt_apply]; unfold codesBlk
  congr 1
  funext a; apply Fin.ext
  have h0 := inb 0; have h1 := inb 1
  have y0 : (y 0).val < 32 := (y 0).isLt
  have y1 : (y 1).val < 128 := (y 1).isLt
  have h0' : 32 * r + 32 ≤ 3584 := h0
  have h1' : col + 128 ≤ 256 := h1
  match a with
  | ⟨0, _⟩ => show 32 * r + 1 * (y 0).val = (32 * r + (y 0).val) % 3584; omega
  | ⟨1, _⟩ => show col + 1 * (y 1).val = (col + (y 1).val) % 256; omega

/-! ## The stored payloads -/

theorem cast_block (v : IVec S8x128 32) (i : Fin 8) (l : Fin 128) : shapeCast S1x8x128 v shapeCasts_S8x128_S1x8x128 (ix3 0 i l) = v (ix2 i l) := by
  simp only [pointwise]

end Cert.Kernel.Hand
end
-- ==== Proof.K.Loop.lean ====
/-
  The four counted loops of the dense decode, one rule each: from the codes and the scratch, the loop leaves the scratch reading
  `fill … 112` of the plane, by one symbolic trip.
-/
module

public import proofs.«01_k».proof.Proof.K.Trip

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The four loops: the invariant, its step, the loop -/

/-- Before trip `k` of plane `g`: the codes as they were, the scratch reading `fill … k`. -/
def LInv (c : Dev nD) (arg2 : Memref sig .tc .vmem S3584x256 .i8) (arg7 : Memref sig .tc .vmem S4x1792x128 .i32)
    (f2 : Buf (Elt F) (arg2.view.loc (c : Thread nD τ))) (old : IVec S4x1792x128 32) (g : ℕ) (w0 w1 : ℕ → IVec S8x128 32) (k : ℕ) : sProp 𝕄 :=
  iprop((arg2.view.loc (c : Thread nD τ) ↦[arg2.view.set]{fullShare} f2) ∗
    ∃ f : Buf (Elt F) (arg7.view.loc (c : Thread nD τ)), (arg7.view.loc (c : Thread nD τ) ↦[arg7.view.set]{fullShare} f) ∗ ⌜arg7.view.read (Elt F) f = fill old g w0 w1 k⌝)

/-- One trip of plane 0's loop. -/
theorem step1 (c : Dev nD) (i : grid0.Coords) (arg1 : Memref sig .tc .vmem S768x3584 .bf16) (harg1 : arg1.IsWhole) (arg2 : Memref sig .tc .vmem S3584x256 .i8) (harg2 : arg2.IsWhole) (arg3 : Memref sig .tc .vmem S8x512 .i32) (harg3 : arg3.IsWhole) (arg4 : Memref sig .tc .vmem S32x28x8x128 .i32) (harg4 : arg4.IsWhole)
    (arg5 : Memref sig .tc .vmem S768x512 .bf16) (harg5 : arg5.IsWhole) (arg6 : Memref sig .tc .vmem S768x512 .f32) (harg6 : arg6.IsWhole) (arg7 : Memref sig .tc .vmem S4x1792x128 .i32) (harg7 : arg7.IsWhole) (v10 : Vec F S8x128 .i32)
    (f2 : Buf (Elt F) (arg2.view.loc (c : Thread nD τ))) (old : IVec S4x1792x128 32) (k : Fin k0_t1_loop.trips) (acc : Unit) :
    LInv c arg2 arg7 f2 old 0 (fun r => stored0 k0_pay36 k0_pay37 (k0_pay38 v10) k0_pay39 (codesBlk (arg2.view.read (Elt F) f2) r 0)) (fun r => stored1 k0_pay36 k0_pay37 (k0_pay38 v10) k0_pay39 (codesBlk (arg2.view.read (Elt F) f2) r 0)) k.val ⊢
      wp frame (wpE (defs₀ (F := F)) Variants.none c none) Set.univ (k0_t1_body (F := F) i arg1 harg1 arg2 harg2 arg3 harg3 arg4 harg4 arg5 harg5 arg6 harg6 arg7 harg7 v10 k acc)
        fun _ => LInv c arg2 arg7 f2 old 0 (fun r => stored0 k0_pay36 k0_pay37 (k0_pay38 v10) k0_pay39 (codesBlk (arg2.view.read (Elt F) f2) r 0)) (fun r => stored1 k0_pay36 k0_pay37 (k0_pay38 v10) k0_pay39 (codesBlk (arg2.view.read (Elt F) f2) r 0)) (k.val + 1) := by
  unfold k0_t1_body
  unfold LInv
  iintro ⟨H2, %f7, H7, %hf⟩
  sl_exec
  sl_step
  isplitl [H2]
  · iexact H2
  iexists _
  isplitl [H7]
  · iexact H7
  ipureintro
  refine read_fill_succ arg7 f7 old 0 k.val _ _ _ _ (k0_off2_eq k 0) (k0_off2_eq k 1) _ _ _ _ (fun i l => ?_) (fun i l => ?_) hf
  · rw [← readAt_codes arg2 f2 k.val 0 _ (k0_off1_eq k) (k0_off1_inb k)]
    exact cast_block (stored0 k0_pay36 k0_pay37 (k0_pay38 v10) k0_pay39 (arg2.view.readAt (Elt F) (Rect.unit (s := S3584x256) (k0_off1 k) ![32, 128] (k0_off1_inb k)).toLoadRect f2)) i l
  · rw [← readAt_codes arg2 f2 k.val 0 _ (k0_off1_eq k) (k0_off1_inb k)]
    exact cast_block (stored1 k0_pay36 k0_pay37 (k0_pay38 v10) k0_pay39 (arg2.view.readAt (Elt F) (Rect.unit (s := S3584x256) (k0_off1 k) ![32, 128] (k0_off1_inb k)).toLoadRect f2)) i l

/-- Plane 0's loop, before what follows it. -/
theorem loop1 (c : Dev nD) (i : grid0.Coords) (arg1 : Memref sig .tc .vmem S768x3584 .bf16) (harg1 : arg1.IsWhole) (arg2 : Memref sig .tc .vmem S3584x256 .i8) (harg2 : arg2.IsWhole) (arg3 : Memref sig .tc .vmem S8x512 .i32) (harg3 : arg3.IsWhole) (arg4 : Memref sig .tc .vmem S32x28x8x128 .i32) (harg4 : arg4.IsWhole)
    (arg5 : Memref sig .tc .vmem S768x512 .bf16) (harg5 : arg5.IsWhole) (arg6 : Memref sig .tc .vmem S768x512 .f32) (harg6 : arg6.IsWhole) (arg7 : Memref sig .tc .vmem S4x1792x128 .i32) (harg7 : arg7.IsWhole) (v10 : Vec F S8x128 .i32)
    (f2 : Buf (Elt F) (arg2.view.loc (c : Thread nD τ))) (f7 : Buf (Elt F) (arg7.view.loc (c : Thread nD τ)))
    {β : Type} (kont : Unit → Prog (TpuEff nD τ sig (Elt F) Λ₀ .tc) β) (K : β → sProp 𝕄) :
    iprop((arg2.view.loc (c : Thread nD τ) ↦[arg2.view.set]{fullShare} f2) ∗ (arg7.view.loc (c : Thread nD τ) ↦[arg7.view.set]{fullShare} f7) ∗
      (LInv c arg2 arg7 f2 (arg7.view.read (Elt F) f7) 0 (fun r => stored0 k0_pay36 k0_pay37 (k0_pay38 v10) k0_pay39 (codesBlk (arg2.view.read (Elt F) f2) r 0)) (fun r => stored1 k0_pay36 k0_pay37 (k0_pay38 v10) k0_pay39 (codesBlk (arg2.view.read (Elt F) f2) r 0)) 112 -∗
        wp frame (wpE (defs₀ (F := F)) Variants.none c none) Set.univ (kont ()) K)) ⊢
      wp frame (wpE (defs₀ (F := F)) Variants.none c none) Set.univ
        (Scf.Loop.for k0_t1_loop k0_t1_ok ⟨⟩ (k0_t1_body (F := F) i arg1 harg1 arg2 harg2 arg3 harg3 arg4 harg4 arg5 harg5 arg6 harg6 arg7 harg7 v10) >>= kont) K := by
  iintro ⟨H2, H7, HK⟩
  iapply (Scf.wp_for_bind frame (wpE (defs₀ (F := F)) Variants.none c none) Set.univ k0_t1_loop.lb k0_t1_loop.ub k0_t1_loop.st k0_t1_ok ⟨⟩
    (k0_t1_body (F := F) i arg1 harg1 arg2 harg2 arg3 harg3 arg4 harg4 arg5 harg5 arg6 harg6 arg7 harg7 v10) (fun k _ => LInv c arg2 arg7 f2 (arg7.view.read (Elt F) f7) 0 (fun r => stored0 k0_pay36 k0_pay37 (k0_pay38 v10) k0_pay39 (codesBlk (arg2.view.read (Elt F) f2) r 0)) (fun r => stored1 k0_pay36 k0_pay37 (k0_pay38 v10) k0_pay39 (codesBlk (arg2.view.read (Elt F) f2) r 0)) k)
    (fun k acc => step1 c i arg1 harg1 arg2 harg2 arg3 harg3 arg4 harg4 arg5 harg5 arg6 harg6 arg7 harg7 v10 f2 _ k acc)) $$ [H2 H7]
  · unfold LInv
    isplitl [H2]
    · iexact H2
    iexists f7
    isplitl [H7]
    · iexact H7
    ipureintro
    exact (fill_zero _ _ _ _).symm
  iintro %acc Hinv
  iapply HK
  iexact Hinv

/-- One trip of plane 1's loop. -/
theorem step2 (c : Dev nD) (i : grid0.Coords) (arg1 : Memref sig .tc .vmem S768x3584 .bf16) (harg1 : arg1.IsWhole) (arg2 : Memref sig .tc .vmem S3584x256 .i8) (harg2 : arg2.IsWhole) (arg3 : Memref sig .tc .vmem S8x512 .i32) (harg3 : arg3.IsWhole) (arg4 : Memref sig .tc .vmem S32x28x8x128 .i32) (harg4 : arg4.IsWhole)
    (arg5 : Memref sig .tc .vmem S768x512 .bf16) (harg5 : arg5.IsWhole) (arg6 : Memref sig .tc .vmem S768x512 .f32) (harg6 : arg6.IsWhole) (arg7 : Memref sig .tc .vmem S4x1792x128 .i32) (harg7 : arg7.IsWhole) (v17 : Vec F S8x128 .i32)
    (f2 : Buf (Elt F) (arg2.view.loc (c : Thread nD τ))) (old : IVec S4x1792x128 32) (k : Fin k0_t2_loop.trips) (acc : Unit) :
    LInv c arg2 arg7 f2 old 1 (fun r => stored0 k0_pay36 k0_pay37 (k0_pay42 v17) k0_pay43 (codesBlk (arg2.view.read (Elt F) f2) r 0)) (fun r => stored1 k0_pay36 k0_pay37 (k0_pay42 v17) k0_pay43 (codesBlk (arg2.view.read (Elt F) f2) r 0)) k.val ⊢
      wp frame (wpE (defs₀ (F := F)) Variants.none c none) Set.univ (k0_t2_body (F := F) i arg1 harg1 arg2 harg2 arg3 harg3 arg4 harg4 arg5 harg5 arg6 harg6 arg7 harg7 v17 k acc)
        fun _ => LInv c arg2 arg7 f2 old 1 (fun r => stored0 k0_pay36 k0_pay37 (k0_pay42 v17) k0_pay43 (codesBlk (arg2.view.read (Elt F) f2) r 0)) (fun r => stored1 k0_pay36 k0_pay37 (k0_pay42 v17) k0_pay43 (codesBlk (arg2.view.read (Elt F) f2) r 0)) (k.val + 1) := by
  unfold k0_t2_body
  unfold LInv
  iintro ⟨H2, %f7, H7, %hf⟩
  sl_exec
  sl_step
  isplitl [H2]
  · iexact H2
  iexists _
  isplitl [H7]
  · iexact H7
  ipureintro
  refine read_fill_succ arg7 f7 old 1 k.val _ _ _ _ (k0_off4_eq k 0) (k0_off4_eq k 1) _ _ _ _ (fun i l => ?_) (fun i l => ?_) hf
  · rw [← readAt_codes arg2 f2 k.val 0 _ (k0_off3_eq k) (k0_off3_inb k)]
    exact cast_block (stored0 k0_pay36 k0_pay37 (k0_pay42 v17) k0_pay43 (arg2.view.readAt (Elt F) (Rect.unit (s := S3584x256) (k0_off3 k) ![32, 128] (k0_off3_inb k)).toLoadRect f2)) i l
  · rw [← readAt_codes arg2 f2 k.val 0 _ (k0_off3_eq k) (k0_off3_inb k)]
    exact cast_block (stored1 k0_pay36 k0_pay37 (k0_pay42 v17) k0_pay43 (arg2.view.readAt (Elt F) (Rect.unit (s := S3584x256) (k0_off3 k) ![32, 128] (k0_off3_inb k)).toLoadRect f2)) i l

/-- Plane 1's loop, before what follows it. -/
theorem loop2 (c : Dev nD) (i : grid0.Coords) (arg1 : Memref sig .tc .vmem S768x3584 .bf16) (harg1 : arg1.IsWhole) (arg2 : Memref sig .tc .vmem S3584x256 .i8) (harg2 : arg2.IsWhole) (arg3 : Memref sig .tc .vmem S8x512 .i32) (harg3 : arg3.IsWhole) (arg4 : Memref sig .tc .vmem S32x28x8x128 .i32) (harg4 : arg4.IsWhole)
    (arg5 : Memref sig .tc .vmem S768x512 .bf16) (harg5 : arg5.IsWhole) (arg6 : Memref sig .tc .vmem S768x512 .f32) (harg6 : arg6.IsWhole) (arg7 : Memref sig .tc .vmem S4x1792x128 .i32) (harg7 : arg7.IsWhole) (v17 : Vec F S8x128 .i32)
    (f2 : Buf (Elt F) (arg2.view.loc (c : Thread nD τ))) (f7 : Buf (Elt F) (arg7.view.loc (c : Thread nD τ)))
    {β : Type} (kont : Unit → Prog (TpuEff nD τ sig (Elt F) Λ₀ .tc) β) (K : β → sProp 𝕄) :
    iprop((arg2.view.loc (c : Thread nD τ) ↦[arg2.view.set]{fullShare} f2) ∗ (arg7.view.loc (c : Thread nD τ) ↦[arg7.view.set]{fullShare} f7) ∗
      (LInv c arg2 arg7 f2 (arg7.view.read (Elt F) f7) 1 (fun r => stored0 k0_pay36 k0_pay37 (k0_pay42 v17) k0_pay43 (codesBlk (arg2.view.read (Elt F) f2) r 0)) (fun r => stored1 k0_pay36 k0_pay37 (k0_pay42 v17) k0_pay43 (codesBlk (arg2.view.read (Elt F) f2) r 0)) 112 -∗
        wp frame (wpE (defs₀ (F := F)) Variants.none c none) Set.univ (kont ()) K)) ⊢
      wp frame (wpE (defs₀ (F := F)) Variants.none c none) Set.univ
        (Scf.Loop.for k0_t2_loop k0_t2_ok ⟨⟩ (k0_t2_body (F := F) i arg1 harg1 arg2 harg2 arg3 harg3 arg4 harg4 arg5 harg5 arg6 harg6 arg7 harg7 v17) >>= kont) K := by
  iintro ⟨H2, H7, HK⟩
  iapply (Scf.wp_for_bind frame (wpE (defs₀ (F := F)) Variants.none c none) Set.univ k0_t2_loop.lb k0_t2_loop.ub k0_t2_loop.st k0_t2_ok ⟨⟩
    (k0_t2_body (F := F) i arg1 harg1 arg2 harg2 arg3 harg3 arg4 harg4 arg5 harg5 arg6 harg6 arg7 harg7 v17) (fun k _ => LInv c arg2 arg7 f2 (arg7.view.read (Elt F) f7) 1 (fun r => stored0 k0_pay36 k0_pay37 (k0_pay42 v17) k0_pay43 (codesBlk (arg2.view.read (Elt F) f2) r 0)) (fun r => stored1 k0_pay36 k0_pay37 (k0_pay42 v17) k0_pay43 (codesBlk (arg2.view.read (Elt F) f2) r 0)) k)
    (fun k acc => step2 c i arg1 harg1 arg2 harg2 arg3 harg3 arg4 harg4 arg5 harg5 arg6 harg6 arg7 harg7 v17 f2 _ k acc)) $$ [H2 H7]
  · unfold LInv
    isplitl [H2]
    · iexact H2
    iexists f7
    isplitl [H7]
    · iexact H7
    ipureintro
    exact (fill_zero _ _ _ _).symm
  iintro %acc Hinv
  iapply HK
  iexact Hinv

/-- One trip of plane 2's loop. -/
theorem step3 (c : Dev nD) (i : grid0.Coords) (arg1 : Memref sig .tc .vmem S768x3584 .bf16) (harg1 : arg1.IsWhole) (arg2 : Memref sig .tc .vmem S3584x256 .i8) (harg2 : arg2.IsWhole) (arg3 : Memref sig .tc .vmem S8x512 .i32) (harg3 : arg3.IsWhole) (arg4 : Memref sig .tc .vmem S32x28x8x128 .i32) (harg4 : arg4.IsWhole)
    (arg5 : Memref sig .tc .vmem S768x512 .bf16) (harg5 : arg5.IsWhole) (arg6 : Memref sig .tc .vmem S768x512 .f32) (harg6 : arg6.IsWhole) (arg7 : Memref sig .tc .vmem S4x1792x128 .i32) (harg7 : arg7.IsWhole) (v0 : IVec S8x128 32) (v5 : IVec S16x128 1) (v9 v25 v29 : IVec S8x128 32) (c0_i32_16 : BitVec 32)
    (f2 : Buf (Elt F) (arg2.view.loc (c : Thread nD τ))) (old : IVec S4x1792x128 32) (k : Fin k0_t3_loop.trips) (acc : Unit) :
    LInv c arg2 arg7 f2 old 2 (fun r => stored0 v5 v9 v25 v29 (codesBlk (arg2.view.read (Elt F) f2) r 128)) (fun r => stored1 v5 v9 v25 v29 (codesBlk (arg2.view.read (Elt F) f2) r 128)) k.val ⊢
      wp frame (wpE (defs₀ (F := F)) Variants.none c none) Set.univ (k0_t3_body (F := F) i arg1 harg1 arg2 harg2 arg3 harg3 arg4 harg4 arg5 harg5 arg6 harg6 arg7 harg7 v0 v5 v9 v25 v29 c0_i32_16 k acc)
        fun _ => LInv c arg2 arg7 f2 old 2 (fun r => stored0 v5 v9 v25 v29 (codesBlk (arg2.view.read (Elt F) f2) r 128)) (fun r => stored1 v5 v9 v25 v29 (codesBlk (arg2.view.read (Elt F) f2) r 128)) (k.val + 1) := by
  unfold k0_t3_body
  unfold LInv
  iintro ⟨H2, %f7, H7, %hf⟩
  sl_exec
  sl_step
  isplitl [H2]
  · iexact H2
  iexists _
  isplitl [H7]
  · iexact H7
  ipureintro
  refine read_fill_succ arg7 f7 old 2 k.val _ _ _ _ (k0_off6_eq k 0) (k0_off6_eq k 1) _ _ _ _ (fun i l => ?_) (fun i l => ?_) hf
  · rw [← readAt_codes arg2 f2 k.val 128 _ (k0_off5_eq k) (k0_off5_inb k)]
    exact cast_block (stored0 v5 v9 v25 v29 (arg2.view.readAt (Elt F) (Rect.unit (s := S3584x256) (k0_off5 k) ![32, 128] (k0_off5_inb k)).toLoadRect f2)) i l
  · rw [← readAt_codes arg2 f2 k.val 128 _ (k0_off5_eq k) (k0_off5_inb k)]
    exact cast_block (stored1 v5 v9 v25 v29 (arg2.view.readAt (Elt F) (Rect.unit (s := S3584x256) (k0_off5 k) ![32, 128] (k0_off5_inb k)).toLoadRect f2)) i l

/-- Plane 2's loop, before what follows it. -/
theorem loop3 (c : Dev nD) (i : grid0.Coords) (arg1 : Memref sig .tc .vmem S768x3584 .bf16) (harg1 : arg1.IsWhole) (arg2 : Memref sig .tc .vmem S3584x256 .i8) (harg2 : arg2.IsWhole) (arg3 : Memref sig .tc .vmem S8x512 .i32) (harg3 : arg3.IsWhole) (arg4 : Memref sig .tc .vmem S32x28x8x128 .i32) (harg4 : arg4.IsWhole)
    (arg5 : Memref sig .tc .vmem S768x512 .bf16) (harg5 : arg5.IsWhole) (arg6 : Memref sig .tc .vmem S768x512 .f32) (harg6 : arg6.IsWhole) (arg7 : Memref sig .tc .vmem S4x1792x128 .i32) (harg7 : arg7.IsWhole) (v0 : IVec S8x128 32) (v5 : IVec S16x128 1) (v9 v25 v29 : IVec S8x128 32) (c0_i32_16 : BitVec 32)
    (f2 : Buf (Elt F) (arg2.view.loc (c : Thread nD τ))) (f7 : Buf (Elt F) (arg7.view.loc (c : Thread nD τ)))
    {β : Type} (kont : Unit → Prog (TpuEff nD τ sig (Elt F) Λ₀ .tc) β) (K : β → sProp 𝕄) :
    iprop((arg2.view.loc (c : Thread nD τ) ↦[arg2.view.set]{fullShare} f2) ∗ (arg7.view.loc (c : Thread nD τ) ↦[arg7.view.set]{fullShare} f7) ∗
      (LInv c arg2 arg7 f2 (arg7.view.read (Elt F) f7) 2 (fun r => stored0 v5 v9 v25 v29 (codesBlk (arg2.view.read (Elt F) f2) r 128)) (fun r => stored1 v5 v9 v25 v29 (codesBlk (arg2.view.read (Elt F) f2) r 128)) 112 -∗
        wp frame (wpE (defs₀ (F := F)) Variants.none c none) Set.univ (kont ()) K)) ⊢
      wp frame (wpE (defs₀ (F := F)) Variants.none c none) Set.univ
        (Scf.Loop.for k0_t3_loop k0_t3_ok ⟨⟩ (k0_t3_body (F := F) i arg1 harg1 arg2 harg2 arg3 harg3 arg4 harg4 arg5 harg5 arg6 harg6 arg7 harg7 v0 v5 v9 v25 v29 c0_i32_16) >>= kont) K := by
  iintro ⟨H2, H7, HK⟩
  iapply (Scf.wp_for_bind frame (wpE (defs₀ (F := F)) Variants.none c none) Set.univ k0_t3_loop.lb k0_t3_loop.ub k0_t3_loop.st k0_t3_ok ⟨⟩
    (k0_t3_body (F := F) i arg1 harg1 arg2 harg2 arg3 harg3 arg4 harg4 arg5 harg5 arg6 harg6 arg7 harg7 v0 v5 v9 v25 v29 c0_i32_16) (fun k _ => LInv c arg2 arg7 f2 (arg7.view.read (Elt F) f7) 2 (fun r => stored0 v5 v9 v25 v29 (codesBlk (arg2.view.read (Elt F) f2) r 128)) (fun r => stored1 v5 v9 v25 v29 (codesBlk (arg2.view.read (Elt F) f2) r 128)) k)
    (fun k acc => step3 c i arg1 harg1 arg2 harg2 arg3 harg3 arg4 harg4 arg5 harg5 arg6 harg6 arg7 harg7 v0 v5 v9 v25 v29 c0_i32_16 f2 _ k acc)) $$ [H2 H7]
  · unfold LInv
    isplitl [H2]
    · iexact H2
    iexists f7
    isplitl [H7]
    · iexact H7
    ipureintro
    exact (fill_zero _ _ _ _).symm
  iintro %acc Hinv
  iapply HK
  iexact Hinv

/-- One trip of plane 3's loop. -/
theorem step4 (c : Dev nD) (i : grid0.Coords) (arg1 : Memref sig .tc .vmem S768x3584 .bf16) (harg1 : arg1.IsWhole) (arg2 : Memref sig .tc .vmem S3584x256 .i8) (harg2 : arg2.IsWhole) (arg3 : Memref sig .tc .vmem S8x512 .i32) (harg3 : arg3.IsWhole) (arg4 : Memref sig .tc .vmem S32x28x8x128 .i32) (harg4 : arg4.IsWhole)
    (arg5 : Memref sig .tc .vmem S768x512 .bf16) (harg5 : arg5.IsWhole) (arg6 : Memref sig .tc .vmem S768x512 .f32) (harg6 : arg6.IsWhole) (arg7 : Memref sig .tc .vmem S4x1792x128 .i32) (harg7 : arg7.IsWhole) (v0 : IVec S8x128 32) (v5 : IVec S16x128 1) (v9 v25 v29 : IVec S8x128 32) (c0_i32_16 : BitVec 32) (v31 : Vec F S8x128 .i32)
    (f2 : Buf (Elt F) (arg2.view.loc (c : Thread nD τ))) (old : IVec S4x1792x128 32) (k : Fin k0_t4_loop.trips) (acc : Unit) :
    LInv c arg2 arg7 f2 old 3 (fun r => stored0 v5 v9 (k0_pay50 v31) (k0_pay51 v0) (codesBlk (arg2.view.read (Elt F) f2) r 128)) (fun r => stored1 v5 v9 (k0_pay50 v31) (k0_pay51 v0) (codesBlk (arg2.view.read (Elt F) f2) r 128)) k.val ⊢
      wp frame (wpE (defs₀ (F := F)) Variants.none c none) Set.univ (k0_t4_body (F := F) i arg1 harg1 arg2 harg2 arg3 harg3 arg4 harg4 arg5 harg5 arg6 harg6 arg7 harg7 v0 v5 v9 v25 v29 c0_i32_16 v31 k acc)
        fun _ => LInv c arg2 arg7 f2 old 3 (fun r => stored0 v5 v9 (k0_pay50 v31) (k0_pay51 v0) (codesBlk (arg2.view.read (Elt F) f2) r 128)) (fun r => stored1 v5 v9 (k0_pay50 v31) (k0_pay51 v0) (codesBlk (arg2.view.read (Elt F) f2) r 128)) (k.val + 1) := by
  unfold k0_t4_body
  unfold LInv
  iintro ⟨H2, %f7, H7, %hf⟩
  sl_exec
  sl_step
  isplitl [H2]
  · iexact H2
  iexists _
  isplitl [H7]
  · iexact H7
  ipureintro
  refine read_fill_succ arg7 f7 old 3 k.val _ _ _ _ (k0_off8_eq k 0) (k0_off8_eq k 1) _ _ _ _ (fun i l => ?_) (fun i l => ?_) hf
  · rw [← readAt_codes arg2 f2 k.val 128 _ (k0_off7_eq k) (k0_off7_inb k)]
    exact cast_block (stored0 v5 v9 (k0_pay50 v31) (k0_pay51 v0) (arg2.view.readAt (Elt F) (Rect.unit (s := S3584x256) (k0_off7 k) ![32, 128] (k0_off7_inb k)).toLoadRect f2)) i l
  · rw [← readAt_codes arg2 f2 k.val 128 _ (k0_off7_eq k) (k0_off7_inb k)]
    exact cast_block (stored1 v5 v9 (k0_pay50 v31) (k0_pay51 v0) (arg2.view.readAt (Elt F) (Rect.unit (s := S3584x256) (k0_off7 k) ![32, 128] (k0_off7_inb k)).toLoadRect f2)) i l

/-- Plane 3's loop, before what follows it. -/
theorem loop4 (c : Dev nD) (i : grid0.Coords) (arg1 : Memref sig .tc .vmem S768x3584 .bf16) (harg1 : arg1.IsWhole) (arg2 : Memref sig .tc .vmem S3584x256 .i8) (harg2 : arg2.IsWhole) (arg3 : Memref sig .tc .vmem S8x512 .i32) (harg3 : arg3.IsWhole) (arg4 : Memref sig .tc .vmem S32x28x8x128 .i32) (harg4 : arg4.IsWhole)
    (arg5 : Memref sig .tc .vmem S768x512 .bf16) (harg5 : arg5.IsWhole) (arg6 : Memref sig .tc .vmem S768x512 .f32) (harg6 : arg6.IsWhole) (arg7 : Memref sig .tc .vmem S4x1792x128 .i32) (harg7 : arg7.IsWhole) (v0 : IVec S8x128 32) (v5 : IVec S16x128 1) (v9 v25 v29 : IVec S8x128 32) (c0_i32_16 : BitVec 32) (v31 : Vec F S8x128 .i32)
    (f2 : Buf (Elt F) (arg2.view.loc (c : Thread nD τ))) (f7 : Buf (Elt F) (arg7.view.loc (c : Thread nD τ)))
    {β : Type} (kont : Unit → Prog (TpuEff nD τ sig (Elt F) Λ₀ .tc) β) (K : β → sProp 𝕄) :
    iprop((arg2.view.loc (c : Thread nD τ) ↦[arg2.view.set]{fullShare} f2) ∗ (arg7.view.loc (c : Thread nD τ) ↦[arg7.view.set]{fullShare} f7) ∗
      (LInv c arg2 arg7 f2 (arg7.view.read (Elt F) f7) 3 (fun r => stored0 v5 v9 (k0_pay50 v31) (k0_pay51 v0) (codesBlk (arg2.view.read (Elt F) f2) r 128)) (fun r => stored1 v5 v9 (k0_pay50 v31) (k0_pay51 v0) (codesBlk (arg2.view.read (Elt F) f2) r 128)) 112 -∗
        wp frame (wpE (defs₀ (F := F)) Variants.none c none) Set.univ (kont ()) K)) ⊢
      wp frame (wpE (defs₀ (F := F)) Variants.none c none) Set.univ
        (Scf.Loop.for k0_t4_loop k0_t4_ok ⟨⟩ (k0_t4_body (F := F) i arg1 harg1 arg2 harg2 arg3 harg3 arg4 harg4 arg5 harg5 arg6 harg6 arg7 harg7 v0 v5 v9 v25 v29 c0_i32_16 v31) >>= kont) K := by
  iintro ⟨H2, H7, HK⟩
  iapply (Scf.wp_for_bind frame (wpE (defs₀ (F := F)) Variants.none c none) Set.univ k0_t4_loop.lb k0_t4_loop.ub k0_t4_loop.st k0_t4_ok ⟨⟩
    (k0_t4_body (F := F) i arg1 harg1 arg2 harg2 arg3 harg3 arg4 harg4 arg5 harg5 arg6 harg6 arg7 harg7 v0 v5 v9 v25 v29 c0_i32_16 v31) (fun k _ => LInv c arg2 arg7 f2 (arg7.view.read (Elt F) f7) 3 (fun r => stored0 v5 v9 (k0_pay50 v31) (k0_pay51 v0) (codesBlk (arg2.view.read (Elt F) f2) r 128)) (fun r => stored1 v5 v9 (k0_pay50 v31) (k0_pay51 v0) (codesBlk (arg2.view.read (Elt F) f2) r 128)) k)
    (fun k acc => step4 c i arg1 harg1 arg2 harg2 arg3 harg3 arg4 harg4 arg5 harg5 arg6 harg6 arg7 harg7 v0 v5 v9 v25 v29 c0_i32_16 v31 f2 _ k acc)) $$ [H2 H7]
  · unfold LInv
    isplitl [H2]
    · iexact H2
    iexists f7
    isplitl [H7]
    · iexact H7
    ipureintro
    exact (fill_zero _ _ _ _).symm
  iintro %acc Hinv
  iapply HK
  iexact Hinv

end Cert.Kernel.Hand
end
-- ==== Proof.K.Body.lean ====
/-
  The kernel body, run once on whole windows at any contents: the loads, the four loops by their rules, the two products, the two
  stores. `outY` and `outYs` name what it leaves in the two result blocks, as functions of the four input blocks.
-/
module

public import proofs.«01_k».proof.Proof.K.Loop

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What the body computes, from the contents of its blocks -/

/-- What a load reads of contents `d`. -/
def ld {S : Shape} {e : EltTy} (d : Vec F S e) (r : LoadRect S) : Vec F r.shape e := fun y => d (r.idx y)

/-- One decoded plane: row `16r + 2i + q` is row `i` of trip `r`'s block `q`. -/
def plane (w0 w1 : ℕ → IVec S8x128 32) : IVec S1x1792x128 32 := fun y =>
  if (y 1).val % 2 = 0 then w0 ((y 1).val / 16) (ix2 ⟨(y 1).val % 16 / 2, by omega⟩ (y 2))
  else w1 ((y 1).val / 16) (ix2 ⟨(y 1).val % 16 / 2, by omega⟩ (y 2))

/-- Plane 0 of the decoded weights: columns `0 … 127` of the block. -/
def plane0 (d2 : Vec F S3584x256 .i8) (d3 : Vec F S8x512 .i32) : IVec S1x1792x128 32 :=
  plane (fun r => stored0 k0_pay36 k0_pay37 (k0_pay38 (ld d3 (Rect.unit (s := S8x512) ![0, 0] S8x128.size inb_S8x512_S8x128_0_0).toLoadRect)) k0_pay39 (codesBlk d2 r 0))
    (fun r => stored1 k0_pay36 k0_pay37 (k0_pay38 (ld d3 (Rect.unit (s := S8x512) ![0, 0] S8x128.size inb_S8x512_S8x128_0_0).toLoadRect)) k0_pay39 (codesBlk d2 r 0))

/-- Plane 1 of the decoded weights: columns `128 … 255` of the block. -/
def plane1 (d2 : Vec F S3584x256 .i8) (d3 : Vec F S8x512 .i32) : IVec S1x1792x128 32 :=
  plane (fun r => stored0 k0_pay36 k0_pay37 (k0_pay42 (ld d3 (Rect.unit (s := S8x512) ![0, 128] S8x128.size inb_S8x512_S8x128_0_128).toLoadRect)) k0_pay43 (codesBlk d2 r 0))
    (fun r => stored1 k0_pay36 k0_pay37 (k0_pay42 (ld d3 (Rect.unit (s := S8x512) ![0, 128] S8x128.size inb_S8x512_S8x128_0_128).toLoadRect)) k0_pay43 (codesBlk d2 r 0))

/-- Plane 2 of the decoded weights: columns `256 … 383` of the block. -/
def plane2 (d2 : Vec F S3584x256 .i8) (d3 : Vec F S8x512 .i32) : IVec S1x1792x128 32 :=
  plane (fun r => stored0 k0_pay36 k0_pay37 (k0_pay46 (ld d3 (Rect.unit (s := S8x512) ![0, 256] S8x128.size inb_S8x512_S8x128_0_256).toLoadRect)) k0_pay47 (codesBlk d2 r 128))
    (fun r => stored1 k0_pay36 k0_pay37 (k0_pay46 (ld d3 (Rect.unit (s := S8x512) ![0, 256] S8x128.size inb_S8x512_S8x128_0_256).toLoadRect)) k0_pay47 (codesBlk d2 r 128))

/-- Plane 3 of the decoded weights: columns `384 … 511` of the block. -/
def plane3 (d2 : Vec F S3584x256 .i8) (d3 : Vec F S8x512 .i32) : IVec S1x1792x128 32 :=
  plane (fun r => stored0 k0_pay36 k0_pay37 (k0_pay50 (ld d3 (Rect.unit (s := S8x512) ![0, 384] S8x128.size inb_S8x512_S8x128_0_384).toLoadRect)) (k0_pay51 (iota .tc S8x128 32 [1] iota_S8x128_d1_w32)) (codesBlk d2 r 128))
    (fun r => stored1 k0_pay36 k0_pay37 (k0_pay50 (ld d3 (Rect.unit (s := S8x512) ![0, 384] S8x128.size inb_S8x512_S8x128_0_384).toLoadRect)) (k0_pay51 (iota .tc S8x128 32 [1] iota_S8x128_d1_w32)) (codesBlk d2 r 128))

/-- The sparse product, left in the second result's block. -/
def outYs (d1 : Vec F S768x3584 .bf16) (d4 : Vec F S32x28x8x128 .i32) : Vec F S768x512 .f32 :=
  k0_pay2 (k0_pay54 (ld d1 (Rect.unit (s := S768x3584) ![0, 0] S768x3584.size inb_S768x3584_S768x3584_0_0).toLoadRect)) (k0_pay1
    (k0_pay56 (ld d4 (Rect.unit (s := S32x28x8x128) ![0, 0, 0, 0] S32x1x8x128.size inb_S32x28x8x128_S32x1x8x128_0_0_0_0).toLoadRect))
    (k0_pay57 (ld d4 (Rect.unit (s := S32x28x8x128) ![0, 1, 0, 0] S32x1x8x128.size inb_S32x28x8x128_S32x1x8x128_0_1_0_0).toLoadRect))
    (k0_pay58 (ld d4 (Rect.unit (s := S32x28x8x128) ![0, 2, 0, 0] S32x1x8x128.size inb_S32x28x8x128_S32x1x8x128_0_2_0_0).toLoadRect))
    (k0_pay59 (ld d4 (Rect.unit (s := S32x28x8x128) ![0, 3, 0, 0] S32x1x8x128.size inb_S32x28x8x128_S32x1x8x128_0_3_0_0).toLoadRect))
    (k0_pay60 (ld d4 (Rect.unit (s := S32x28x8x128) ![0, 4, 0, 0] S32x1x8x128.size inb_S32x28x8x128_S32x1x8x128_0_4_0_0).toLoadRect))
    (k0_pay61 (ld d4 (Rect.unit (s := S32x28x8x128) ![0, 5, 0, 0] S32x1x8x128.size inb_S32x28x8x128_S32x1x8x128_0_5_0_0).toLoadRect))
    (k0_pay62 (ld d4 (Rect.unit (s := S32x28x8x128) ![0, 6, 0, 0] S32x1x8x128.size inb_S32x28x8x128_S32x1x8x128_0_6_0_0).toLoadRect))
    (k0_pay63 (ld d4 (Rect.unit (s := S32x28x8x128) ![0, 7, 0, 0] S32x1x8x128.size inb_S32x28x8x128_S32x1x8x128_0_7_0_0).toLoadRect))
    (k0_pay65 (F := F) (k0_pay64 (ld d4 (Rect.unit (s := S32x28x8x128) ![0, 8, 0, 0] S32x1x8x128.size inb_S32x28x8x128_S32x1x8x128_0_8_0_0).toLoadRect)))
    (k0_pay66 (ld d4 (Rect.unit (s := S32x28x8x128) ![0, 9, 0, 0] S32x1x8x128.size inb_S32x28x8x128_S32x1x8x128_0_9_0_0).toLoadRect))
    (k0_pay67 (ld d4 (Rect.unit (s := S32x28x8x128) ![0, 10, 0, 0] S32x1x8x128.size inb_S32x28x8x128_S32x1x8x128_0_10_0_0).toLoadRect))
    (k0_pay68 (ld d4 (Rect.unit (s := S32x28x8x128) ![0, 11, 0, 0] S32x1x8x128.size inb_S32x28x8x128_S32x1x8x128_0_11_0_0).toLoadRect))
    (k0_pay69 (ld d4 (Rect.unit (s := S32x28x8x128) ![0, 12, 0, 0] S32x1x8x128.size inb_S32x28x8x128_S32x1x8x128_0_12_0_0).toLoadRect))
    (k0_pay70 (ld d4 (Rect.unit (s := S32x28x8x128) ![0, 13, 0, 0] S32x1x8x128.size inb_S32x28x8x128_S32x1x8x128_0_13_0_0).toLoadRect))
    (k0_pay71 (ld d4 (Rect.unit (s := S32x28x8x128) ![0, 14, 0, 0] S32x1x8x128.size inb_S32x28x8x128_S32x1x8x128_0_14_0_0).toLoadRect))
    (k0_pay72 (ld d4 (Rect.unit (s := S32x28x8x128) ![0, 15, 0, 0] S32x1x8x128.size inb_S32x28x8x128_S32x1x8x128_0_15_0_0).toLoadRect))
    (k0_pay73 (ld d4 (Rect.unit (s := S32x28x8x128) ![0, 16, 0, 0] S32x1x8x128.size inb_S32x28x8x128_S32x1x8x128_0_16_0_0).toLoadRect))
    (k0_pay74 (ld d4 (Rect.unit (s := S32x28x8x128) ![0, 17, 0, 0] S32x1x8x128.size inb_S32x28x8x128_S32x1x8x128_0_17_0_0).toLoadRect))
    (k0_pay75 (ld d4 (Rect.unit (s := S32x28x8x128) ![0, 18, 0, 0] S32x1x8x128.size inb_S32x28x8x128_S32x1x8x128_0_18_0_0).toLoadRect))
    (k0_pay76 (ld d4 (Rect.unit (s := S32x28x8x128) ![0, 19, 0, 0] S32x1x8x128.size inb_S32x28x8x128_S32x1x8x128_0_19_0_0).toLoadRect))
    (k0_pay77 (ld d4 (Rect.unit (s := S32x28x8x128) ![0, 20, 0, 0] S32x1x8x128.size inb_S32x28x8x128_S32x1x8x128_0_20_0_0).toLoadRect))
    (k0_pay78 (ld d4 (Rect.unit (s := S32x28x8x128) ![0, 21, 0, 0] S32x1x8x128.size inb_S32x28x8x128_S32x1x8x128_0_21_0_0).toLoadRect))
    (k0_pay79 (ld d4 (Rect.unit (s := S32x28x8x128) ![0, 22, 0, 0] S32x1x8x128.size inb_S32x28x8x128_S32x1x8x128_0_22_0_0).toLoadRect))
    (k0_pay80 (ld d4 (Rect.unit (s := S32x28x8x128) ![0, 23, 0, 0] S32x1x8x128.size inb_S32x28x8x128_S32x1x8x128_0_23_0_0).toLoadRect))
    (ld d4 (Rect.unit (s := S32x28x8x128) ![0, 24, 0, 0] S32x1x8x128.size inb_S32x28x8x128_S32x1x8x128_0_24_0_0).toLoadRect)
    (ld d4 (Rect.unit (s := S32x28x8x128) ![0, 25, 0, 0] S32x1x8x128.size inb_S32x28x8x128_S32x1x8x128_0_25_0_0).toLoadRect)
    (ld d4 (Rect.unit (s := S32x28x8x128) ![0, 26, 0, 0] S32x1x8x128.size inb_S32x28x8x128_S32x1x8x128_0_26_0_0).toLoadRect)
    (ld d4 (Rect.unit (s := S32x28x8x128) ![0, 27, 0, 0] S32x1x8x128.size inb_S32x28x8x128_S32x1x8x128_0_27_0_0).toLoadRect))

/-- The sum of the dense and the sparse product, rounded, left in the first result's block. -/
def outY (d1 : Vec F S768x3584 .bf16) (d2 : Vec F S3584x256 .i8) (d3 : Vec F S8x512 .i32) (d4 : Vec F S32x28x8x128 .i32) : Vec F S768x512 .bf16 :=
  k0_pay3 (k0_pay55 (ld d1 (Rect.unit (s := S768x3584) ![0, 0] S768x3584.size inb_S768x3584_S768x3584_0_0).toLoadRect)
    (plane0 d2 d3) (plane1 d2 d3) (plane2 d2 d3) (plane3 d2 d3)) (outYs d1 d4)

/-! ## Loads and stores of the body -/

/-- A plane that a whole loop filled, loaded. -/
theorem readAt_fill {sp : Space} (arg7 : Memref sig .tc sp S4x1792x128 .i32) (f7 : arg7.view.ty.Contents (Elt F)) (old : IVec S4x1792x128 32)
    (g : ℕ) (w0 w1 : ℕ → IVec S8x128 32) (inb) (hf : arg7.view.read (Elt F) f7 = fill old g w0 w1 112) :
    arg7.view.readAt (Elt F) (Rect.unit (s := S4x1792x128) ![g, 0, 0] S1x1792x128.size inb).toLoadRect f7 = plane w0 w1 := by
  funext y
  refine (congrFun hf _).trans ?_
  have y0 : (y 0).val < 1 := (y 0).isLt
  have y1 : (y 1).val < 1792 := (y 1).isLt
  have e0 : (((Rect.unit (s := S4x1792x128) ![g, 0, 0] S1x1792x128.size inb).toLoadRect).idx y 0).val = g := by
    show g + 1 * (y 0).val = g; omega
  have e1 : (((Rect.unit (s := S4x1792x128) ![g, 0, 0] S1x1792x128.size inb).toLoadRect).idx y 1).val = (y 1).val := by
    show 0 + 1 * (y 1).val = _; omega
  have e2 : ((Rect.unit (s := S4x1792x128) ![g, 0, 0] S1x1792x128.size inb).toLoadRect).idx y 2 = (y 2 : Fin 128) := by
    apply Fin.ext; show 0 + 1 * (y 2).val = _; omega
  unfold fill plane
  rw [if_pos ⟨e0, by rw [e1]; omega⟩]
  simp only [e1, e2]

/-- Loading plane `g` after another plane's loop is loading it before. -/
theorem readAt_fill_of_ne {sp : Space} (arg7 : Memref sig .tc sp S4x1792x128 .i32) (f7 f7' : arg7.view.ty.Contents (Elt F))
    (g g' k : ℕ) (w0 w1 : ℕ → IVec S8x128 32) (hg : g ≠ g') (inb) (hf : arg7.view.read (Elt F) f7' = fill (arg7.view.read (Elt F) f7) g' w0 w1 k) :
    arg7.view.readAt (Elt F) (Rect.unit (s := S4x1792x128) ![g, 0, 0] S1x1792x128.size inb).toLoadRect f7'
      = arg7.view.readAt (Elt F) (Rect.unit (s := S4x1792x128) ![g, 0, 0] S1x1792x128.size inb).toLoadRect f7 := by
  funext y
  refine (congrFun hf _).trans ?_
  have y0 : (y 0).val < 1 := (y 0).isLt
  have e0 : (((Rect.unit (s := S4x1792x128) ![g, 0, 0] S1x1792x128.size inb).toLoadRect).idx y 0).val = g := by
    show g + 1 * (y 0).val = g; omega
  unfold fill
  rw [if_neg (fun h => hg (e0.symm.trans h.1))]
  rfl

/-- The whole block written reads as what was written. -/
theorem read_whole_write {sp : Space} {e : EltTy} (arg : Memref sig .tc sp S768x512 e) (f : arg.view.ty.Contents (Elt F)) (w : Vec F S768x512 e) :
    arg.view.read (Elt F) (arg.view.writes (Elt F) f [⟨Rect.unit (s := S768x512) ![0, 0] S768x512.size inb_S768x512_S768x512_0_0, w⟩]) = w := by
  funext y
  have e : y = (Rect.unit (s := S768x512) ![0, 0] S768x512.size inb_S768x512_S768x512_0_0).emb y := by
    funext a; apply Fin.ext
    match a with
    | ⟨0, _⟩ => show (y 0).val = 0 + 1 * (y 0).val; omega
    | ⟨1, _⟩ => show (y 1).val = 0 + 1 * (y 1).val; omega
  refine (congrArg _ e).trans ?_
  exact View.read_writes_cons_emb arg.view f (Rect.unit (s := S768x512) ![0, 0] S768x512.size inb_S768x512_S768x512_0_0) w [] y

/-- and loaded whole, too. -/
theorem readAt_whole_write {sp : Space} {e : EltTy} (arg : Memref sig .tc sp S768x512 e) (f : arg.view.ty.Contents (Elt F)) (w : Vec F S768x512 e) :
    arg.view.readAt (Elt F) (Rect.unit (s := S768x512) ![0, 0] S768x512.size inb_S768x512_S768x512_0_0).toLoadRect
      (arg.view.writes (Elt F) f [⟨Rect.unit (s := S768x512) ![0, 0] S768x512.size inb_S768x512_S768x512_0_0, w⟩]) = w := by
  funext y
  refine (congrFun (read_whole_write arg f w) _).trans ?_
  congr 1
  funext a; apply Fin.ext
  match a with
  | ⟨0, _⟩ => show 0 + 1 * (y 0).val = (y 0).val; omega
  | ⟨1, _⟩ => show 0 + 1 * (y 1).val = (y 1).val; omega

/-! ## The run -/

/-- On whole windows at any contents, the body leaves `outYs` and `outY` in the result blocks, the input blocks as they were, the
    scratch at some contents. -/
theorem bodyRun (c : Dev nD) (i : grid0.Coords) (arg1 : Memref sig .tc .vmem S768x3584 .bf16) (harg1 : arg1.IsWhole) (arg2 : Memref sig .tc .vmem S3584x256 .i8) (harg2 : arg2.IsWhole) (arg3 : Memref sig .tc .vmem S8x512 .i32) (harg3 : arg3.IsWhole) (arg4 : Memref sig .tc .vmem S32x28x8x128 .i32) (harg4 : arg4.IsWhole)
    (arg5 : Memref sig .tc .vmem S768x512 .bf16) (harg5 : arg5.IsWhole) (arg6 : Memref sig .tc .vmem S768x512 .f32) (harg6 : arg6.IsWhole) (arg7 : Memref sig .tc .vmem S4x1792x128 .i32) (harg7 : arg7.IsWhole)
    (f1 : Buf (Elt F) (arg1.view.loc (c : Thread nD τ))) (f2 : Buf (Elt F) (arg2.view.loc (c : Thread nD τ))) (f3 : Buf (Elt F) (arg3.view.loc (c : Thread nD τ))) (f4 : Buf (Elt F) (arg4.view.loc (c : Thread nD τ))) (f5 : Buf (Elt F) (arg5.view.loc (c : Thread nD τ))) (f6 : Buf (Elt F) (arg6.view.loc (c : Thread nD τ))) (f7 : Buf (Elt F) (arg7.view.loc (c : Thread nD τ)))
    (K : PUnit → sProp 𝕄) :
    iprop((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗
      (∀ g5 : Buf (Elt F) (arg5.view.loc (c : Thread nD τ)), ∀ g6 : Buf (Elt F) (arg6.view.loc (c : Thread nD τ)), ∀ g7 : Buf (Elt F) (arg7.view.loc (c : Thread nD τ)),
        iprop((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} g5) ∗ (arg6.view.loc (c : Thread nD τ) ↦[arg6.view.set]{fullShare} g6) ∗ (arg7.view.loc (c : Thread nD τ) ↦[arg7.view.set]{fullShare} g7) ∗
          ⌜arg5.view.read (Elt F) g5 = outY (arg1.view.read (Elt F) f1) (arg2.view.read (Elt F) f2) (arg3.view.read (Elt F) f3) (arg4.view.read (Elt F) f4)⌝ ∗
          ⌜arg6.view.read (Elt F) g6 = outYs (arg1.view.read (Elt F) f1) (arg4.view.read (Elt F) f4)⌝) -∗ K ⟨⟩)) ⊢
      wp frame (wpE (defs₀ (F := F)) Variants.none c none) Set.univ (cc0_linear (F := F) i arg1 harg1 arg2 harg2 arg3 harg3 arg4 harg4 arg5 harg5 arg6 harg6 arg7 harg7) K := by
  rw [cc0_linear_eq_skeleton]; unfold cc0_linear_skel
  iintro ⟨H1, H2, H3, H4, H5, H6, H7, HK⟩
  sl_exec
  iapply (loop1 c i arg1 harg1 arg2 harg2 arg3 harg3 arg4 harg4 arg5 harg5 arg6 harg6 arg7 harg7 _ f2 f7)
  isplitl [H2]; · iexact H2
  isplitl [H7]; · iexact H7
  unfold LInv
  iintro ⟨H2, %g1, H7, %hg1⟩
  sl_exec
  iapply (loop2 c i arg1 harg1 arg2 harg2 arg3 harg3 arg4 harg4 arg5 harg5 arg6 harg6 arg7 harg7 _ f2 g1)
  isplitl [H2]; · iexact H2
  isplitl [H7]; · iexact H7
  unfold LInv
  iintro ⟨H2, %g2, H7, %hg2⟩
  sl_exec
  iapply (loop3 c i arg1 harg1 arg2 harg2 arg3 harg3 arg4 harg4 arg5 harg5 arg6 harg6 arg7 harg7 _ _ _ _ _ _ f2 g2)
  isplitl [H2]; · iexact H2
  isplitl [H7]; · iexact H7
  unfold LInv
  iintro ⟨H2, %g3, H7, %hg3⟩
  sl_exec
  iapply (loop4 c i arg1 harg1 arg2 harg2 arg3 harg3 arg4 harg4 arg5 harg5 arg6 harg6 arg7 harg7 _ _ _ _ _ _ _ f2 g3)
  isplitl [H2]; · iexact H2
  isplitl [H7]; · iexact H7
  unfold LInv
  iintro ⟨H2, %g4, H7, %hg4⟩
  sl_exec
  sl_step
  iapply HK $$ %_ %_ %_
  isplitl [H1]; · iexact H1
  isplitl [H2]; · iexact H2
  isplitl [H3]; · iexact H3
  isplitl [H4]; · iexact H4
  isplitl [H5]; · iexact H5
  isplitl [H6]; · iexact H6
  isplitl [H7]; · iexact H7
  have hys : (bodyRun.sl.v169 c arg1 arg4 arg6 f1 f4 : Vec F S768x512 .f32) = outYs (arg1.view.read (Elt F) f1) (arg4.view.read (Elt F) f4) :=
    readAt_whole_write arg6 _ _
  isplitr
  · ipureintro
    refine (read_whole_write arg5 f5 _).trans ?_
    rw [hys]
    unfold outY
    refine congrArg (fun z => k0_pay3 z _) ?_
    have p3 := readAt_fill arg7 g4 _ 3 _ _ inb_S4x1792x128_S1x1792x128_3_0_0 hg4
    have p2 := (readAt_fill_of_ne arg7 g3 g4 2 3 112 _ _ (by decide) inb_S4x1792x128_S1x1792x128_2_0_0 hg4).trans (readAt_fill arg7 g3 _ 2 _ _ _ hg3)
    have p1 := (readAt_fill_of_ne arg7 g3 g4 1 3 112 _ _ (by decide) inb_S4x1792x128_S1x1792x128_1_0_0 hg4).trans
      ((readAt_fill_of_ne arg7 g2 g3 1 2 112 _ _ (by decide) _ hg3).trans (readAt_fill arg7 g2 _ 1 _ _ _ hg2))
    have p0 := (readAt_fill_of_ne arg7 g3 g4 0 3 112 _ _ (by decide) inb_S4x1792x128_S1x1792x128_0_0_0 hg4).trans
      ((readAt_fill_of_ne arg7 g2 g3 0 2 112 _ _ (by decide) _ hg3).trans ((readAt_fill_of_ne arg7 g1 g2 0 1 112 _ _ (by decide) _ hg2).trans
        (readAt_fill arg7 g1 _ 0 _ _ _ hg1)))
    unfold bodyRun.sl.r_1
    rw [p0, p1, p2, p3]
    rfl
  · ipureintro
    exact read_whole_write arg6 f6 _

end Cert.Kernel.Hand
end
-- ==== Proof.K.Launch.lean ====
/-
  The pipelined kernel's launch: the proof data (each input block left in place, each result block at what the body leaves), the
  body's obligation from `bodyRun`, the run of `main`, and the frame claim with every counter at zero.
-/
module

public import proofs.«01_k».proof.Proof.K.Body

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev bX (c : Dev nD) (t : Fin cfg0.N) : Vec F S768x3584 .bf16 := iblk m c 0 t
abbrev bC (c : Dev nD) (t : Fin cfg0.N) : Vec F S3584x256 .i8 := iblk m c 1 t
abbrev bT (c : Dev nD) (t : Fin cfg0.N) : Vec F S8x512 .i32 := iblk m c 2 t
abbrev bS (c : Dev nD) (t : Fin cfg0.N) : Vec F S32x28x8x128 .i32 := iblk m c 3 t

/-- The proof data: the arrays as the region finds them, the results' blocks after the body at `outY` and `outYs`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outY (bX m c t) (bC m c t) (bT m c t) (bS m c t)
    | ⟨5, _⟩ => outYs (bX m c t) (bS m c t)
  Φ _ := Pipeline.ΦA spec0 c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = outY (bX m c t) (bC m c t) (bT m c t) (bS m c t) := by dsimp only [dats]
theorem after0_5 (c : Dev nD) (t : Fin cfg0.N) : (dats m 0 c).after 5 t = outYs (bX m c t) (bS m c t) := by dsimp only [dats]
theorem before0_0 (c : Dev nD) (t : Fin cfg0.N) (d) : (dats m 0 c).before 0 t d = iblk m c 0 t := before0_0_of m (dats m 0 c) (A_eq m c 0) (after0_0 m c) t d
theorem before0_1 (c : Dev nD) (t : Fin cfg0.N) (d) : (dats m 0 c).before 1 t d = iblk m c 1 t := before0_1_of m (dats m 0 c) (A_eq m c 1) (after0_1 m c) t d
theorem before0_2 (c : Dev nD) (t : Fin cfg0.N) (d) : (dats m 0 c).before 2 t d = iblk m c 2 t := before0_2_of m (dats m 0 c) (A_eq m c 2) (after0_2 m c) t d
theorem before0_3 (c : Dev nD) (t : Fin cfg0.N) (d) : (dats m 0 c).before 3 t d = iblk m c 3 t := before0_3_of m (dats m 0 c) (A_eq m c 3) (after0_3 m c) t d

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl, after0_0, after0_1, after0_2, after0_3, after0_4, after0_5]
  simp only [before0_0, before0_1, before0_2, before0_3]
  rw [show (dats m 0 c).Φ t.castSucc = Pipeline.ΦA spec0 c from rfl]
  unfold Pipeline.ΦA
  rw [scopedRest0_eq]
  unfold Dat.owesAt Pipeline.owesWithin
  rw [show (dats m 0 c).owed t.castSucc = 0 from rfl, show (dats m 0 c).owed t.succ = 0 from rfl]
  unfold owns
  iintro ⟨⟨⟨%f7, H7⟩, Hg⟩, ⟨%W, -, HW⟩, ⟨%d0, %f1, %e1, H1⟩, ⟨%d1, %f2, %e2, H2⟩, ⟨%d2, %f3, %e3, H3⟩, ⟨%d3, %f4, %e4, H4⟩, ⟨%d4, %f5, -, H5⟩, ⟨%d5, %f6, -, H6⟩⟩
  iapply (bodyRun c (grid0.coords t) _ _ _ _ _ _ _ _ _ _ _ _ _ _ f1 f2 f3 f4 f5 f6 f7 _)
  isplitl [H1]; · iexact H1
  isplitl [H2]; · iexact H2
  isplitl [H3]; · iexact H3
  isplitl [H4]; · iexact H4
  isplitl [H5]; · iexact H5
  isplitl [H6]; · iexact H6
  isplitl [H7]
  · rw [show (Memref.whole cc0_scratch0).view.set = Finset.univ from View.set_whole _]; iexact H7
  iintro %g5 %g6 %g7 ⟨H1, H2, H3, H4, H5, H6, H7, %e5, %e6⟩
  isplitl [H7 Hg]
  · isplitl [H7]
    · iexists g7; rw [show (Memref.whole cc0_scratch0).view.set = Finset.univ from View.set_whole _]; iexact H7
    iexact Hg
  isplitl [HW]
  · iexists W; isplitr
    · ipureintro; exact fun _ _ => Or.inl trivial
    iexact HW
  isplitl [H1]; · iexists f1; isplitr; swap; · iexact H1
                  ipureintro; exact e1
  isplitl [H2]; · iexists f2; isplitr; swap; · iexact H2
                  ipureintro; exact e2
  isplitl [H3]; · iexists f3; isplitr; swap; · iexact H3
                  ipureintro; exact e3
  isplitl [H4]; · iexists f4; isplitr; swap; · iexact H4
                  ipureintro; exact e4
  isplitl [H5]
  · iexists g5; isplitr; swap; · iexact H5
    ipureintro; rw [e5, e1, e2, e3, e4]
  iexists g6; isplitr; swap; · iexact H6
  ipureintro; rw [e6, e1, e4]

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
theorem run_main : θ_run defs (onTc (τ := τ) (main (F := F))) (s₀ m ρ) (fun r => Pipeline.FramePost cfgs (dats m) 0 (V m) r ∧ r.2.sem = fun _ => 0) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)
    (Q' := fun r => Pipeline.FramePost cfgs (dats m) 0 (V m) r ∧ r.2.sem = fun _ => 0) (hQ' := fun _ h => h)

/-- The arguments come back as they were and every counter at zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).1 1).trans (((dats m 0 c).arrAt_in 1 rfl _).trans ((A_eq m c 1).trans (V_main_arg1 m c))),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c)⟩, h.2⟩) (run_main m ρ)

end Cert.Kernel.Hand
end
-- ==== Proof.KI.Trip.lean ====
/-
  The dense decode's four counted loops. Each loop fills one plane of the scratch `arg7` (a `4 × 1792 × 128` array
  of words): trip `r` loads rows `32r … 32r + 31` of a 128-column tile of the codes and stores two interleaved `8 × 128` blocks, into the
  even rows and into the odd rows of `16r … 16r + 15`. `fill` names what the plane holds after `k` trips; the loop's invariant is that
  the scratch reads `fill … k`.
-/
module

public import proofs.«01_k».proof.Proof.Gen.KernelIdeal.Loops
public import proofs.«01_k».proof.Proof.Gen.KernelIdeal.Frame
public import Idealize.ShloMosaic.Lib.ValueIdx
public import Idealize.ShloMosaic.Lib.Pointwise

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What one trip stores -/

/-- The block a trip stores into its even rows: of the word loaded at a lane, the entries of its bytes 0 and 1, packed. -/
def stored0 (v5 : IVec S16x128 1) (v9 v11 v15 : IVec S8x128 32) (v176 : Vec F S32x128 .i8) : IVec S8x128 32 :=
  k0_pay11 v5 (k0_pay5 v9 v11 v15 v176) (k0_pay7 v9 v11 v15 v176) (k0_pay8 v9 v15 v176)

/-- The block a trip stores into its odd rows: the entries of bytes 2 and 3, packed. -/
def stored1 (v5 : IVec S16x128 1) (v9 v11 v15 : IVec S8x128 32) (v176 : Vec F S32x128 .i8) : IVec S8x128 32 :=
  bitcast S8x128 32 (select v5
    (bitcast S16x128 16 (k0_pay9 v11 (k0_pay4 v9 v15 v176)) bitcasts_S8x128_w32_S16x128_w16)
    (bitcast S16x128 16 (k0_pay10 v11 (k0_pay4 v9 v15 v176)) bitcasts_S8x128_w32_S16x128_w16)) bitcasts_S16x128_w16_S8x128_w32

/-- Rows `32r … 32r + 31` of the codes' tile of columns `col … col + 127`. -/
def codesBlk (cd : Vec F S3584x256 .i8) (r col : ℕ) : Vec F S32x128 .i8 := fun y =>
  cd (ix2 ⟨(32 * r + (y 0).val) % 3584, Nat.mod_lt _ (by decide)⟩ ⟨(col + (y 1).val) % 256, Nat.mod_lt _ (by decide)⟩)

/-- Plane `g` of `old` with its first `16k` rows filled, row `16r + 2i + q` by row `i` of trip `r`'s block `q`. -/
def fill (old : IVec S4x1792x128 32) (g : ℕ) (w0 w1 : ℕ → IVec S8x128 32) (k : ℕ) : IVec S4x1792x128 32 := fun x =>
  if (x 0).val = g ∧ (x 1).val < 16 * k then
    if (x 1).val % 2 = 0 then w0 ((x 1).val / 16) (ix2 ⟨(x 1).val % 16 / 2, by omega⟩ (x 2))
    else w1 ((x 1).val / 16) (ix2 ⟨(x 1).val % 16 / 2, by omega⟩ (x 2))
  else old x

theorem fill_zero (old : IVec S4x1792x128 32) (g : ℕ) (w0 w1 : ℕ → IVec S8x128 32) : fill old g w0 w1 0 = old := by
  funext x; unfold fill; rw [if_neg (by omega)]

/-- Two layers of writes over `fill … k`, at the elements `e0` and `e1` name (the even and the odd rows of the next sixteen), are `fill … (k + 1)`. -/
theorem fill_succ (old : IVec S4x1792x128 32) (g k : ℕ) (w0 w1 : ℕ → IVec S8x128 32) (e0 e1 : S1x8x128.Idx → S4x1792x128.Idx)
    (e00 : ∀ y, (e0 y 0).val = g + (y 0).val) (e01 : ∀ y, (e0 y 1).val = 16 * k + 2 * (y 1).val) (e02 : ∀ y, (e0 y 2).val = (y 2).val)
    (e10 : ∀ y, (e1 y 0).val = g + (y 0).val) (e11 : ∀ y, (e1 y 1).val = 16 * k + 1 + 2 * (y 1).val) (e12 : ∀ y, (e1 y 2).val = (y 2).val)
    (p0 p1 : IVec S1x8x128 32) (h0 : ∀ i l, p0 (ix3 0 i l) = w0 k (ix2 i l)) (h1 : ∀ i l, p1 (ix3 0 i l) = w1 k (ix2 i l))
    (mid new : IVec S4x1792x128 32) (hit1 : ∀ y, new (e1 y) = p1 y) (miss1 : ∀ z, (∀ y, e1 y ≠ z) → new z = mid z)
    (hit0 : ∀ y, mid (e0 y) = p0 y) (miss0 : ∀ z, (∀ y, e0 y ≠ z) → mid z = fill old g w0 w1 k z) :
    new = fill old g w0 w1 (k + 1) := by
  funext x
  have n0 : (x 1).val % 2 ≠ 0 ∨ ¬ ((x 0).val = g ∧ 16 * k ≤ (x 1).val ∧ (x 1).val < 16 * k + 16) → ∀ y, e0 y ≠ x := by
    intro h y hy
    have a0 := e00 y; have a1 := e01 y
    rw [hy] at a0 a1
    have b0 : (y 0).val < 1 := (y 0).isLt
    have b1 : (y 1).val < 8 := (y 1).isLt
    omega
  have n1 : (x 1).val % 2 = 0 ∨ ¬ ((x 0).val = g ∧ 16 * k ≤ (x 1).val ∧ (x 1).val < 16 * k + 16) → ∀ y, e1 y ≠ x := by
    intro h y hy
    have a0 := e10 y; have a1 := e11 y
    rw [hy] at a0 a1
    have b0 : (y 0).val < 1 := (y 0).isLt
    have b1 : (y 1).val < 8 := (y 1).isLt
    omega
  by_cases hx : (x 0).val = g ∧ 16 * k ≤ (x 1).val ∧ (x 1).val < 16 * k + 16
  · have hr : (x 1).val / 16 = k := by omega
    have hin : (x 0).val = g ∧ (x 1).val < 16 * (k + 1) := by omega
    by_cases hq : (x 1).val % 2 = 0
    · have e : e0 (ix3 0 ⟨(x 1).val % 16 / 2, by omega⟩ ⟨(x 2).val, (x 2).isLt⟩) = x := by
        funext a; apply Fin.ext
        match a with
        | ⟨0, _⟩ => exact (e00 _).trans hx.1.symm
        | ⟨1, _⟩ => refine (e01 _).trans ?_; show 16 * k + 2 * ((x 1).val % 16 / 2) = (x 1).val; omega
        | ⟨2, _⟩ => exact e02 _
      rw [miss1 x (n1 (.inl hq))]
      refine (congrArg mid e.symm).trans ((hit0 _).trans ((h0 _ _).trans ?_))
      unfold fill; rw [if_pos hin, if_pos hq, hr]; rfl
    · have e : e1 (ix3 0 ⟨(x 1).val % 16 / 2, by omega⟩ ⟨(x 2).val, (x 2).isLt⟩) = x := by
        funext a; apply Fin.ext
        match a with
        | ⟨0, _⟩ => exact (e10 _).trans hx.1.symm
        | ⟨1, _⟩ => refine (e11 _).trans ?_; show 16 * k + 1 + 2 * ((x 1).val % 16 / 2) = (x 1).val; omega
        | ⟨2, _⟩ => exact e12 _
      refine (congrArg new e.symm).trans ((hit1 _).trans ((h1 _ _).trans ?_))
      unfold fill; rw [if_pos hin, if_neg hq, hr]; rfl
  · rw [miss1 x (n1 (.inr hx)), miss0 x (n0 (.inr hx))]
    unfold fill
    by_cases hg : (x 0).val = g ∧ (x 1).val < 16 * k
    · have hg' : (x 0).val = g ∧ (x 1).val < 16 * (k + 1) := ⟨hg.1, by omega⟩
      rw [if_pos hg, if_pos hg']
    · have hg' : ¬ ((x 0).val = g ∧ (x 1).val < 16 * (k + 1)) := by omega
      rw [if_neg hg, if_neg hg']

/-- The two strided stores of a trip take `fill … k` to `fill … (k + 1)`. -/
theorem read_fill_succ {sp : Space} (arg7 : Memref sig .tc sp S4x1792x128 .i32) (f7 : arg7.view.ty.Contents (Elt F))
    (old : IVec S4x1792x128 32) (g k : ℕ) (w0 w1 : ℕ → IVec S8x128 32) (o0 o1 : Fin 3 → ℕ) (ho0 : o0 = ![g, 16 * k, 0]) (ho1 : o1 = ![g, 16 * k + 1, 0])
    (inb0 : ∀ a, S1x8x128.size a = 0 ∨ o0 a + (![1, 2, 1] : Fin 3 → ℕ) a * (S1x8x128.size a - 1) < S4x1792x128.size a)
    (inb1 : ∀ a, S1x8x128.size a = 0 ∨ o1 a + (![1, 2, 1] : Fin 3 → ℕ) a * (S1x8x128.size a - 1) < S4x1792x128.size a) (p0 p1 : IVec S1x8x128 32) (h0 : ∀ i l, p0 (ix3 0 i l) = w0 k (ix2 i l)) (h1 : ∀ i l, p1 (ix3 0 i l) = w1 k (ix2 i l))
    (hf : arg7.view.read (Elt F) f7 = fill old g w0 w1 k) :
    arg7.view.read (Elt F) (arg7.view.writes (Elt F) f7
      [⟨⟨(⟨o1, S1x8x128.size, ![1, 2, 1], inb1⟩ : LoadRect S4x1792x128), spos_1_2_1⟩, p1⟩,
       ⟨⟨(⟨o0, S1x8x128.size, ![1, 2, 1], inb0⟩ : LoadRect S4x1792x128), spos_1_2_1⟩, p0⟩])
      = fill old g w0 w1 (k + 1) := by
  subst ho0 ho1
  have miss (r : Rect S4x1792x128) (w : r.shape.Idx → Elt F .i32) (L) (z : S4x1792x128.Idx) (hn : ∀ y, r.emb y ≠ z) :
      arg7.view.read (Elt F) (arg7.view.writes (Elt F) f7 (⟨r, w⟩ :: L)) z = arg7.view.read (Elt F) (arg7.view.writes (Elt F) f7 L) z := by
    rw [View.writes_cons]
    exact View.read_slice_write_of_not_mem _ _ _ _ fun hm => by
      obtain ⟨y, -, hy⟩ := Finset.mem_map.mp hm; exact hn y hy
  have hit (r : Rect S4x1792x128) (w : r.shape.Idx → Elt F .i32) (L) (y) :
      arg7.view.read (Elt F) (arg7.view.writes (Elt F) f7 (⟨r, w⟩ :: L)) (r.emb y) = w y := View.read_writes_cons_emb arg7.view f7 r w L y
  have ev (o : Fin 3 → ℕ) (inb : ∀ a, S1x8x128.size a = 0 ∨ o a + (![1, 2, 1] : Fin 3 → ℕ) a * (S1x8x128.size a - 1) < S4x1792x128.size a) (y : S1x8x128.Idx) (a : Fin 3) :
      ((⟨(⟨o, S1x8x128.size, ![1, 2, 1], inb⟩ : LoadRect S4x1792x128), spos_1_2_1⟩ : Rect S4x1792x128).emb y a).val
        = o a + (![1, 2, 1] : Fin 3 → ℕ) a * (y a).val := rfl
  have v0 (o : ℕ) (n : ℕ) : (![g, o, 0] : Fin 3 → ℕ) 0 + (![1, 2, 1] : Fin 3 → ℕ) 0 * n = g + n := by
    show g + 1 * n = _; omega
  have v1 (o : ℕ) (n : ℕ) : (![g, o, 0] : Fin 3 → ℕ) 1 + (![1, 2, 1] : Fin 3 → ℕ) 1 * n = o + 2 * n := rfl
  have v2 (o : ℕ) (n : ℕ) : (![g, o, 0] : Fin 3 → ℕ) 2 + (![1, 2, 1] : Fin 3 → ℕ) 2 * n = n := by
    show 0 + 1 * n = _; omega
  refine fill_succ old g k w0 w1
    (fun y => (⟨(⟨![g, 16 * k, 0], S1x8x128.size, ![1, 2, 1], inb0⟩ : LoadRect S4x1792x128), spos_1_2_1⟩ : Rect S4x1792x128).emb y)
    (fun y => (⟨(⟨![g, 16 * k + 1, 0], S1x8x128.size, ![1, 2, 1], inb1⟩ : LoadRect S4x1792x128), spos_1_2_1⟩ : Rect S4x1792x128).emb y)
    (fun y => ?_) (fun y => ?_) (fun y => ?_) (fun y => ?_) (fun y => ?_) (fun y => ?_) p0 p1 h0 h1
    (arg7.view.read (Elt F) (arg7.view.writes (Elt F) f7
      [⟨⟨(⟨![g, 16 * k, 0], S1x8x128.size, ![1, 2, 1], inb0⟩ : LoadRect S4x1792x128), spos_1_2_1⟩, p0⟩])) _
    ?_ ?_ ?_ ?_
  · exact (ev _ inb0 y 0).trans (v0 _ _)
  · exact (ev _ inb0 y 1).trans (v1 _ _)
  · exact (ev _ inb0 y 2).trans (v2 _ _)
  · exact (ev _ inb1 y 0).trans (v0 _ _)
  · exact (ev _ inb1 y 1).trans (v1 _ _)
  · exact (ev _ inb1 y 2).trans (v2 _ _)
  · exact hit (⟨(⟨![g, 16 * k + 1, 0], S1x8x128.size, ![1, 2, 1], inb1⟩ : LoadRect S4x1792x128), spos_1_2_1⟩ : Rect S4x1792x128) p1 [⟨(⟨(⟨![g, 16 * k, 0], S1x8x128.size, ![1, 2, 1], inb0⟩ : LoadRect S4x1792x128), spos_1_2_1⟩ : Rect S4x1792x128), p0⟩]
  · exact fun z hz => miss (⟨(⟨![g, 16 * k + 1, 0], S1x8x128.size, ![1, 2, 1], inb1⟩ : LoadRect S4x1792x128), spos_1_2_1⟩ : Rect S4x1792x128) p1 [⟨(⟨(⟨![g, 16 * k, 0], S1x8x128.size, ![1, 2, 1], inb0⟩ : LoadRect S4x1792x128), spos_1_2_1⟩ : Rect S4x1792x128), p0⟩] z hz
  · exact hit (⟨(⟨![g, 16 * k, 0], S1x8x128.size, ![1, 2, 1], inb0⟩ : LoadRect S4x1792x128), spos_1_2_1⟩ : Rect S4x1792x128) p0 []
  · exact fun z hz => (miss (⟨(⟨![g, 16 * k, 0], S1x8x128.size, ![1, 2, 1], inb0⟩ : LoadRect S4x1792x128), spos_1_2_1⟩ : Rect S4x1792x128) p0 [] z hz).trans (congrFun hf z)

/-- A trip's load of the codes through the rectangle at `![32r, col]` is its block. -/
theorem readAt_codes {sp : Space} (arg2 : Memref sig .tc sp S3584x256 .i8) (f2 : arg2.view.ty.Contents (Elt F)) (r col : ℕ) (o : Fin 2 → ℕ)
    (ho : o = ![32 * r, col]) (inb) :
    arg2.view.readAt (Elt F) (Rect.unit (s := S3584x256) o ![32, 128] inb).toLoadRect f2 = codesBlk (arg2.view.read (Elt F) f2) r col := by
  subst ho
  funext y
  rw [View.readAt_apply]; unfold codesBlk
  congr 1
  funext a; apply Fin.ext
  have h0 := inb 0; have h1 := inb 1
  have y0 : (y 0).val < 32 := (y 0).isLt
  have y1 : (y 1).val < 128 := (y 1).isLt
  have h0' : 32 * r + 32 ≤ 3584 := h0
  have h1' : col + 128 ≤ 256 := h1
  match a with
  | ⟨0, _⟩ => show 32 * r + 1 * (y 0).val = (32 * r + (y 0).val) % 3584; omega
  | ⟨1, _⟩ => show col + 1 * (y 1).val = (col + (y 1).val) % 256; omega

/-! ## The stored payloads -/

theorem cast_block (v : IVec S8x128 32) (i : Fin 8) (l : Fin 128) : shapeCast S1x8x128 v shapeCasts_S8x128_S1x8x128 (ix3 0 i l) = v (ix2 i l) := by
  simp only [pointwise]

end Cert.KernelIdeal.Hand
end
-- ==== Proof.KI.Loop.lean ====
/-
  The four counted loops of the dense decode, one rule each: from the codes and the scratch, the loop leaves the scratch reading
  `fill … 112` of the plane, by one symbolic trip.
-/
module

public import proofs.«01_k».proof.Proof.KI.Trip

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The four loops: the invariant, its step, the loop -/

/-- Before trip `k` of plane `g`: the codes as they were, the scratch reading `fill … k`. -/
def LInv (c : Dev nD) (arg2 : Memref sig .tc .vmem S3584x256 .i8) (arg7 : Memref sig .tc .vmem S4x1792x128 .i32)
    (f2 : Buf (Elt F) (arg2.view.loc (c : Thread nD τ))) (old : IVec S4x1792x128 32) (g : ℕ) (w0 w1 : ℕ → IVec S8x128 32) (k : ℕ) : sProp 𝕄 :=
  iprop((arg2.view.loc (c : Thread nD τ) ↦[arg2.view.set]{fullShare} f2) ∗
    ∃ f : Buf (Elt F) (arg7.view.loc (c : Thread nD τ)), (arg7.view.loc (c : Thread nD τ) ↦[arg7.view.set]{fullShare} f) ∗ ⌜arg7.view.read (Elt F) f = fill old g w0 w1 k⌝)

/-- One trip of plane 0's loop. -/
theorem step1 (c : Dev nD) (i : grid0.Coords) (arg1 : Memref sig .tc .vmem S768x3584 .bf16) (harg1 : arg1.IsWhole) (arg2 : Memref sig .tc .vmem S3584x256 .i8) (harg2 : arg2.IsWhole) (arg3 : Memref sig .tc .vmem S8x512 .i32) (harg3 : arg3.IsWhole) (arg4 : Memref sig .tc .vmem S32x28x8x128 .i32) (harg4 : arg4.IsWhole)
    (arg5 : Memref sig .tc .vmem S768x512 .bf16) (harg5 : arg5.IsWhole) (arg6 : Memref sig .tc .vmem S768x512 .f32) (harg6 : arg6.IsWhole) (arg7 : Memref sig .tc .vmem S4x1792x128 .i32) (harg7 : arg7.IsWhole) (v10 : Vec F S8x128 .i32)
    (f2 : Buf (Elt F) (arg2.view.loc (c : Thread nD τ))) (old : IVec S4x1792x128 32) (k : Fin k0_t1_loop.trips) (acc : Unit) :
    LInv c arg2 arg7 f2 old 0 (fun r => stored0 k0_pay36 k0_pay37 (k0_pay38 v10) k0_pay39 (codesBlk (arg2.view.read (Elt F) f2) r 0)) (fun r => stored1 k0_pay36 k0_pay37 (k0_pay38 v10) k0_pay39 (codesBlk (arg2.view.read (Elt F) f2) r 0)) k.val ⊢
      wp frame (wpE (defs₀ (F := F)) Variants.none c none) Set.univ (k0_t1_body (F := F) i arg1 harg1 arg2 harg2 arg3 harg3 arg4 harg4 arg5 harg5 arg6 harg6 arg7 harg7 v10 k acc)
        fun _ => LInv c arg2 arg7 f2 old 0 (fun r => stored0 k0_pay36 k0_pay37 (k0_pay38 v10) k0_pay39 (codesBlk (arg2.view.read (Elt F) f2) r 0)) (fun r => stored1 k0_pay36 k0_pay37 (k0_pay38 v10) k0_pay39 (codesBlk (arg2.view.read (Elt F) f2) r 0)) (k.val + 1) := by
  unfold k0_t1_body
  unfold LInv
  iintro ⟨H2, %f7, H7, %hf⟩
  sl_exec
  sl_step
  isplitl [H2]
  · iexact H2
  iexists _
  isplitl [H7]
  · iexact H7
  ipureintro
  refine read_fill_succ arg7 f7 old 0 k.val _ _ _ _ (k0_off2_eq k 0) (k0_off2_eq k 1) _ _ _ _ (fun i l => ?_) (fun i l => ?_) hf
  · rw [← readAt_codes arg2 f2 k.val 0 _ (k0_off1_eq k) (k0_off1_inb k)]
    exact cast_block (stored0 k0_pay36 k0_pay37 (k0_pay38 v10) k0_pay39 (arg2.view.readAt (Elt F) (Rect.unit (s := S3584x256) (k0_off1 k) ![32, 128] (k0_off1_inb k)).toLoadRect f2)) i l
  · rw [← readAt_codes arg2 f2 k.val 0 _ (k0_off1_eq k) (k0_off1_inb k)]
    exact cast_block (stored1 k0_pay36 k0_pay37 (k0_pay38 v10) k0_pay39 (arg2.view.readAt (Elt F) (Rect.unit (s := S3584x256) (k0_off1 k) ![32, 128] (k0_off1_inb k)).toLoadRect f2)) i l

/-- Plane 0's loop, before what follows it. -/
theorem loop1 (c : Dev nD) (i : grid0.Coords) (arg1 : Memref sig .tc .vmem S768x3584 .bf16) (harg1 : arg1.IsWhole) (arg2 : Memref sig .tc .vmem S3584x256 .i8) (harg2 : arg2.IsWhole) (arg3 : Memref sig .tc .vmem S8x512 .i32) (harg3 : arg3.IsWhole) (arg4 : Memref sig .tc .vmem S32x28x8x128 .i32) (harg4 : arg4.IsWhole)
    (arg5 : Memref sig .tc .vmem S768x512 .bf16) (harg5 : arg5.IsWhole) (arg6 : Memref sig .tc .vmem S768x512 .f32) (harg6 : arg6.IsWhole) (arg7 : Memref sig .tc .vmem S4x1792x128 .i32) (harg7 : arg7.IsWhole) (v10 : Vec F S8x128 .i32)
    (f2 : Buf (Elt F) (arg2.view.loc (c : Thread nD τ))) (f7 : Buf (Elt F) (arg7.view.loc (c : Thread nD τ)))
    {β : Type} (kont : Unit → Prog (TpuEff nD τ sig (Elt F) Λ₀ .tc) β) (K : β → sProp 𝕄) :
    iprop((arg2.view.loc (c : Thread nD τ) ↦[arg2.view.set]{fullShare} f2) ∗ (arg7.view.loc (c : Thread nD τ) ↦[arg7.view.set]{fullShare} f7) ∗
      (LInv c arg2 arg7 f2 (arg7.view.read (Elt F) f7) 0 (fun r => stored0 k0_pay36 k0_pay37 (k0_pay38 v10) k0_pay39 (codesBlk (arg2.view.read (Elt F) f2) r 0)) (fun r => stored1 k0_pay36 k0_pay37 (k0_pay38 v10) k0_pay39 (codesBlk (arg2.view.read (Elt F) f2) r 0)) 112 -∗
        wp frame (wpE (defs₀ (F := F)) Variants.none c none) Set.univ (kont ()) K)) ⊢
      wp frame (wpE (defs₀ (F := F)) Variants.none c none) Set.univ
        (Scf.Loop.for k0_t1_loop k0_t1_ok ⟨⟩ (k0_t1_body (F := F) i arg1 harg1 arg2 harg2 arg3 harg3 arg4 harg4 arg5 harg5 arg6 harg6 arg7 harg7 v10) >>= kont) K := by
  iintro ⟨H2, H7, HK⟩
  iapply (Scf.wp_for_bind frame (wpE (defs₀ (F := F)) Variants.none c none) Set.univ k0_t1_loop.lb k0_t1_loop.ub k0_t1_loop.st k0_t1_ok ⟨⟩
    (k0_t1_body (F := F) i arg1 harg1 arg2 harg2 arg3 harg3 arg4 harg4 arg5 harg5 arg6 harg6 arg7 harg7 v10) (fun k _ => LInv c arg2 arg7 f2 (arg7.view.read (Elt F) f7) 0 (fun r => stored0 k0_pay36 k0_pay37 (k0_pay38 v10) k0_pay39 (codesBlk (arg2.view.read (Elt F) f2) r 0)) (fun r => stored1 k0_pay36 k0_pay37 (k0_pay38 v10) k0_pay39 (codesBlk (arg2.view.read (Elt F) f2) r 0)) k)
    (fun k acc => step1 c i arg1 harg1 arg2 harg2 arg3 harg3 arg4 harg4 arg5 harg5 arg6 harg6 arg7 harg7 v10 f2 _ k acc)) $$ [H2 H7]
  · unfold LInv
    isplitl [H2]
    · iexact H2
    iexists f7
    isplitl [H7]
    · iexact H7
    ipureintro
    exact (fill_zero _ _ _ _).symm
  iintro %acc Hinv
  iapply HK
  iexact Hinv

/-- One trip of plane 1's loop. -/
theorem step2 (c : Dev nD) (i : grid0.Coords) (arg1 : Memref sig .tc .vmem S768x3584 .bf16) (harg1 : arg1.IsWhole) (arg2 : Memref sig .tc .vmem S3584x256 .i8) (harg2 : arg2.IsWhole) (arg3 : Memref sig .tc .vmem S8x512 .i32) (harg3 : arg3.IsWhole) (arg4 : Memref sig .tc .vmem S32x28x8x128 .i32) (harg4 : arg4.IsWhole)
    (arg5 : Memref sig .tc .vmem S768x512 .bf16) (harg5 : arg5.IsWhole) (arg6 : Memref sig .tc .vmem S768x512 .f32) (harg6 : arg6.IsWhole) (arg7 : Memref sig .tc .vmem S4x1792x128 .i32) (harg7 : arg7.IsWhole) (v17 : Vec F S8x128 .i32)
    (f2 : Buf (Elt F) (arg2.view.loc (c : Thread nD τ))) (old : IVec S4x1792x128 32) (k : Fin k0_t2_loop.trips) (acc : Unit) :
    LInv c arg2 arg7 f2 old 1 (fun r => stored0 k0_pay36 k0_pay37 (k0_pay42 v17) k0_pay43 (codesBlk (arg2.view.read (Elt F) f2) r 0)) (fun r => stored1 k0_pay36 k0_pay37 (k0_pay42 v17) k0_pay43 (codesBlk (arg2.view.read (Elt F) f2) r 0)) k.val ⊢
      wp frame (wpE (defs₀ (F := F)) Variants.none c none) Set.univ (k0_t2_body (F := F) i arg1 harg1 arg2 harg2 arg3 harg3 arg4 harg4 arg5 harg5 arg6 harg6 arg7 harg7 v17 k acc)
        fun _ => LInv c arg2 arg7 f2 old 1 (fun r => stored0 k0_pay36 k0_pay37 (k0_pay42 v17) k0_pay43 (codesBlk (arg2.view.read (Elt F) f2) r 0)) (fun r => stored1 k0_pay36 k0_pay37 (k0_pay42 v17) k0_pay43 (codesBlk (arg2.view.read (Elt F) f2) r 0)) (k.val + 1) := by
  unfold k0_t2_body
  unfold LInv
  iintro ⟨H2, %f7, H7, %hf⟩
  sl_exec
  sl_step
  isplitl [H2]
  · iexact H2
  iexists _
  isplitl [H7]
  · iexact H7
  ipureintro
  refine read_fill_succ arg7 f7 old 1 k.val _ _ _ _ (k0_off4_eq k 0) (k0_off4_eq k 1) _ _ _ _ (fun i l => ?_) (fun i l => ?_) hf
  · rw [← readAt_codes arg2 f2 k.val 0 _ (k0_off3_eq k) (k0_off3_inb k)]
    exact cast_block (stored0 k0_pay36 k0_pay37 (k0_pay42 v17) k0_pay43 (arg2.view.readAt (Elt F) (Rect.unit (s := S3584x256) (k0_off3 k) ![32, 128] (k0_off3_inb k)).toLoadRect f2)) i l
  · rw [← readAt_codes arg2 f2 k.val 0 _ (k0_off3_eq k) (k0_off3_inb k)]
    exact cast_block (stored1 k0_pay36 k0_pay37 (k0_pay42 v17) k0_pay43 (arg2.view.readAt (Elt F) (Rect.unit (s := S3584x256) (k0_off3 k) ![32, 128] (k0_off3_inb k)).toLoadRect f2)) i l

/-- Plane 1's loop, before what follows it. -/
theorem loop2 (c : Dev nD) (i : grid0.Coords) (arg1 : Memref sig .tc .vmem S768x3584 .bf16) (harg1 : arg1.IsWhole) (arg2 : Memref sig .tc .vmem S3584x256 .i8) (harg2 : arg2.IsWhole) (arg3 : Memref sig .tc .vmem S8x512 .i32) (harg3 : arg3.IsWhole) (arg4 : Memref sig .tc .vmem S32x28x8x128 .i32) (harg4 : arg4.IsWhole)
    (arg5 : Memref sig .tc .vmem S768x512 .bf16) (harg5 : arg5.IsWhole) (arg6 : Memref sig .tc .vmem S768x512 .f32) (harg6 : arg6.IsWhole) (arg7 : Memref sig .tc .vmem S4x1792x128 .i32) (harg7 : arg7.IsWhole) (v17 : Vec F S8x128 .i32)
    (f2 : Buf (Elt F) (arg2.view.loc (c : Thread nD τ))) (f7 : Buf (Elt F) (arg7.view.loc (c : Thread nD τ)))
    {β : Type} (kont : Unit → Prog (TpuEff nD τ sig (Elt F) Λ₀ .tc) β) (K : β → sProp 𝕄) :
    iprop((arg2.view.loc (c : Thread nD τ) ↦[arg2.view.set]{fullShare} f2) ∗ (arg7.view.loc (c : Thread nD τ) ↦[arg7.view.set]{fullShare} f7) ∗
      (LInv c arg2 arg7 f2 (arg7.view.read (Elt F) f7) 1 (fun r => stored0 k0_pay36 k0_pay37 (k0_pay42 v17) k0_pay43 (codesBlk (arg2.view.read (Elt F) f2) r 0)) (fun r => stored1 k0_pay36 k0_pay37 (k0_pay42 v17) k0_pay43 (codesBlk (arg2.view.read (Elt F) f2) r 0)) 112 -∗
        wp frame (wpE (defs₀ (F := F)) Variants.none c none) Set.univ (kont ()) K)) ⊢
      wp frame (wpE (defs₀ (F := F)) Variants.none c none) Set.univ
        (Scf.Loop.for k0_t2_loop k0_t2_ok ⟨⟩ (k0_t2_body (F := F) i arg1 harg1 arg2 harg2 arg3 harg3 arg4 harg4 arg5 harg5 arg6 harg6 arg7 harg7 v17) >>= kont) K := by
  iintro ⟨H2, H7, HK⟩
  iapply (Scf.wp_for_bind frame (wpE (defs₀ (F := F)) Variants.none c none) Set.univ k0_t2_loop.lb k0_t2_loop.ub k0_t2_loop.st k0_t2_ok ⟨⟩
    (k0_t2_body (F := F) i arg1 harg1 arg2 harg2 arg3 harg3 arg4 harg4 arg5 harg5 arg6 harg6 arg7 harg7 v17) (fun k _ => LInv c arg2 arg7 f2 (arg7.view.read (Elt F) f7) 1 (fun r => stored0 k0_pay36 k0_pay37 (k0_pay42 v17) k0_pay43 (codesBlk (arg2.view.read (Elt F) f2) r 0)) (fun r => stored1 k0_pay36 k0_pay37 (k0_pay42 v17) k0_pay43 (codesBlk (arg2.view.read (Elt F) f2) r 0)) k)
    (fun k acc => step2 c i arg1 harg1 arg2 harg2 arg3 harg3 arg4 harg4 arg5 harg5 arg6 harg6 arg7 harg7 v17 f2 _ k acc)) $$ [H2 H7]
  · unfold LInv
    isplitl [H2]
    · iexact H2
    iexists f7
    isplitl [H7]
    · iexact H7
    ipureintro
    exact (fill_zero _ _ _ _).symm
  iintro %acc Hinv
  iapply HK
  iexact Hinv

/-- One trip of plane 2's loop. -/
theorem step3 (c : Dev nD) (i : grid0.Coords) (arg1 : Memref sig .tc .vmem S768x3584 .bf16) (harg1 : arg1.IsWhole) (arg2 : Memref sig .tc .vmem S3584x256 .i8) (harg2 : arg2.IsWhole) (arg3 : Memref sig .tc .vmem S8x512 .i32) (harg3 : arg3.IsWhole) (arg4 : Memref sig .tc .vmem S32x28x8x128 .i32) (harg4 : arg4.IsWhole)
    (arg5 : Memref sig .tc .vmem S768x512 .bf16) (harg5 : arg5.IsWhole) (arg6 : Memref sig .tc .vmem S768x512 .f32) (harg6 : arg6.IsWhole) (arg7 : Memref sig .tc .vmem S4x1792x128 .i32) (harg7 : arg7.IsWhole) (v0 : IVec S8x128 32) (v5 : IVec S16x128 1) (v9 v25 v29 : IVec S8x128 32) (c0_i32_16 : BitVec 32)
    (f2 : Buf (Elt F) (arg2.view.loc (c : Thread nD τ))) (old : IVec S4x1792x128 32) (k : Fin k0_t3_loop.trips) (acc : Unit) :
    LInv c arg2 arg7 f2 old 2 (fun r => stored0 v5 v9 v25 v29 (codesBlk (arg2.view.read (Elt F) f2) r 128)) (fun r => stored1 v5 v9 v25 v29 (codesBlk (arg2.view.read (Elt F) f2) r 128)) k.val ⊢
      wp frame (wpE (defs₀ (F := F)) Variants.none c none) Set.univ (k0_t3_body (F := F) i arg1 harg1 arg2 harg2 arg3 harg3 arg4 harg4 arg5 harg5 arg6 harg6 arg7 harg7 v0 v5 v9 v25 v29 c0_i32_16 k acc)
        fun _ => LInv c arg2 arg7 f2 old 2 (fun r => stored0 v5 v9 v25 v29 (codesBlk (arg2.view.read (Elt F) f2) r 128)) (fun r => stored1 v5 v9 v25 v29 (codesBlk (arg2.view.read (Elt F) f2) r 128)) (k.val + 1) := by
  unfold k0_t3_body
  unfold LInv
  iintro ⟨H2, %f7, H7, %hf⟩
  sl_exec
  sl_step
  isplitl [H2]
  · iexact H2
  iexists _
  isplitl [H7]
  · iexact H7
  ipureintro
  refine read_fill_succ arg7 f7 old 2 k.val _ _ _ _ (k0_off6_eq k 0) (k0_off6_eq k 1) _ _ _ _ (fun i l => ?_) (fun i l => ?_) hf
  · rw [← readAt_codes arg2 f2 k.val 128 _ (k0_off5_eq k) (k0_off5_inb k)]
    exact cast_block (stored0 v5 v9 v25 v29 (arg2.view.readAt (Elt F) (Rect.unit (s := S3584x256) (k0_off5 k) ![32, 128] (k0_off5_inb k)).toLoadRect f2)) i l
  · rw [← readAt_codes arg2 f2 k.val 128 _ (k0_off5_eq k) (k0_off5_inb k)]
    exact cast_block (stored1 v5 v9 v25 v29 (arg2.view.readAt (Elt F) (Rect.unit (s := S3584x256) (k0_off5 k) ![32, 128] (k0_off5_inb k)).toLoadRect f2)) i l

/-- Plane 2's loop, before what follows it. -/
theorem loop3 (c : Dev nD) (i : grid0.Coords) (arg1 : Memref sig .tc .vmem S768x3584 .bf16) (harg1 : arg1.IsWhole) (arg2 : Memref sig .tc .vmem S3584x256 .i8) (harg2 : arg2.IsWhole) (arg3 : Memref sig .tc .vmem S8x512 .i32) (harg3 : arg3.IsWhole) (arg4 : Memref sig .tc .vmem S32x28x8x128 .i32) (harg4 : arg4.IsWhole)
    (arg5 : Memref sig .tc .vmem S768x512 .bf16) (harg5 : arg5.IsWhole) (arg6 : Memref sig .tc .vmem S768x512 .f32) (harg6 : arg6.IsWhole) (arg7 : Memref sig .tc .vmem S4x1792x128 .i32) (harg7 : arg7.IsWhole) (v0 : IVec S8x128 32) (v5 : IVec S16x128 1) (v9 v25 v29 : IVec S8x128 32) (c0_i32_16 : BitVec 32)
    (f2 : Buf (Elt F) (arg2.view.loc (c : Thread nD τ))) (f7 : Buf (Elt F) (arg7.view.loc (c : Thread nD τ)))
    {β : Type} (kont : Unit → Prog (TpuEff nD τ sig (Elt F) Λ₀ .tc) β) (K : β → sProp 𝕄) :
    iprop((arg2.view.loc (c : Thread nD τ) ↦[arg2.view.set]{fullShare} f2) ∗ (arg7.view.loc (c : Thread nD τ) ↦[arg7.view.set]{fullShare} f7) ∗
      (LInv c arg2 arg7 f2 (arg7.view.read (Elt F) f7) 2 (fun r => stored0 v5 v9 v25 v29 (codesBlk (arg2.view.read (Elt F) f2) r 128)) (fun r => stored1 v5 v9 v25 v29 (codesBlk (arg2.view.read (Elt F) f2) r 128)) 112 -∗
        wp frame (wpE (defs₀ (F := F)) Variants.none c none) Set.univ (kont ()) K)) ⊢
      wp frame (wpE (defs₀ (F := F)) Variants.none c none) Set.univ
        (Scf.Loop.for k0_t3_loop k0_t3_ok ⟨⟩ (k0_t3_body (F := F) i arg1 harg1 arg2 harg2 arg3 harg3 arg4 harg4 arg5 harg5 arg6 harg6 arg7 harg7 v0 v5 v9 v25 v29 c0_i32_16) >>= kont) K := by
  iintro ⟨H2, H7, HK⟩
  iapply (Scf.wp_for_bind frame (wpE (defs₀ (F := F)) Variants.none c none) Set.univ k0_t3_loop.lb k0_t3_loop.ub k0_t3_loop.st k0_t3_ok ⟨⟩
    (k0_t3_body (F := F) i arg1 harg1 arg2 harg2 arg3 harg3 arg4 harg4 arg5 harg5 arg6 harg6 arg7 harg7 v0 v5 v9 v25 v29 c0_i32_16) (fun k _ => LInv c arg2 arg7 f2 (arg7.view.read (Elt F) f7) 2 (fun r => stored0 v5 v9 v25 v29 (codesBlk (arg2.view.read (Elt F) f2) r 128)) (fun r => stored1 v5 v9 v25 v29 (codesBlk (arg2.view.read (Elt F) f2) r 128)) k)
    (fun k acc => step3 c i arg1 harg1 arg2 harg2 arg3 harg3 arg4 harg4 arg5 harg5 arg6 harg6 arg7 harg7 v0 v5 v9 v25 v29 c0_i32_16 f2 _ k acc)) $$ [H2 H7]
  · unfold LInv
    isplitl [H2]
    · iexact H2
    iexists f7
    isplitl [H7]
    · iexact H7
    ipureintro
    exact (fill_zero _ _ _ _).symm
  iintro %acc Hinv
  iapply HK
  iexact Hinv

/-- One trip of plane 3's loop. -/
theorem step4 (c : Dev nD) (i : grid0.Coords) (arg1 : Memref sig .tc .vmem S768x3584 .bf16) (harg1 : arg1.IsWhole) (arg2 : Memref sig .tc .vmem S3584x256 .i8) (harg2 : arg2.IsWhole) (arg3 : Memref sig .tc .vmem S8x512 .i32) (harg3 : arg3.IsWhole) (arg4 : Memref sig .tc .vmem S32x28x8x128 .i32) (harg4 : arg4.IsWhole)
    (arg5 : Memref sig .tc .vmem S768x512 .bf16) (harg5 : arg5.IsWhole) (arg6 : Memref sig .tc .vmem S768x512 .f32) (harg6 : arg6.IsWhole) (arg7 : Memref sig .tc .vmem S4x1792x128 .i32) (harg7 : arg7.IsWhole) (v0 : IVec S8x128 32) (v5 : IVec S16x128 1) (v9 v25 v29 : IVec S8x128 32) (c0_i32_16 : BitVec 32) (v31 : Vec F S8x128 .i32)
    (f2 : Buf (Elt F) (arg2.view.loc (c : Thread nD τ))) (old : IVec S4x1792x128 32) (k : Fin k0_t4_loop.trips) (acc : Unit) :
    LInv c arg2 arg7 f2 old 3 (fun r => stored0 v5 v9 (k0_pay50 v31) (k0_pay51 v0) (codesBlk (arg2.view.read (Elt F) f2) r 128)) (fun r => stored1 v5 v9 (k0_pay50 v31) (k0_pay51 v0) (codesBlk (arg2.view.read (Elt F) f2) r 128)) k.val ⊢
      wp frame (wpE (defs₀ (F := F)) Variants.none c none) Set.univ (k0_t4_body (F := F) i arg1 harg1 arg2 harg2 arg3 harg3 arg4 harg4 arg5 harg5 arg6 harg6 arg7 harg7 v0 v5 v9 v25 v29 c0_i32_16 v31 k acc)
        fun _ => LInv c arg2 arg7 f2 old 3 (fun r => stored0 v5 v9 (k0_pay50 v31) (k0_pay51 v0) (codesBlk (arg2.view.read (Elt F) f2) r 128)) (fun r => stored1 v5 v9 (k0_pay50 v31) (k0_pay51 v0) (codesBlk (arg2.view.read (Elt F) f2) r 128)) (k.val + 1) := by
  unfold k0_t4_body
  unfold LInv
  iintro ⟨H2, %f7, H7, %hf⟩
  sl_exec
  sl_step
  isplitl [H2]
  · iexact H2
  iexists _
  isplitl [H7]
  · iexact H7
  ipureintro
  refine read_fill_succ arg7 f7 old 3 k.val _ _ _ _ (k0_off8_eq k 0) (k0_off8_eq k 1) _ _ _ _ (fun i l => ?_) (fun i l => ?_) hf
  · rw [← readAt_codes arg2 f2 k.val 128 _ (k0_off7_eq k) (k0_off7_inb k)]
    exact cast_block (stored0 v5 v9 (k0_pay50 v31) (k0_pay51 v0) (arg2.view.readAt (Elt F) (Rect.unit (s := S3584x256) (k0_off7 k) ![32, 128] (k0_off7_inb k)).toLoadRect f2)) i l
  · rw [← readAt_codes arg2 f2 k.val 128 _ (k0_off7_eq k) (k0_off7_inb k)]
    exact cast_block (stored1 v5 v9 (k0_pay50 v31) (k0_pay51 v0) (arg2.view.readAt (Elt F) (Rect.unit (s := S3584x256) (k0_off7 k) ![32, 128] (k0_off7_inb k)).toLoadRect f2)) i l

/-- Plane 3's loop, before what follows it. -/
theorem loop4 (c : Dev nD) (i : grid0.Coords) (arg1 : Memref sig .tc .vmem S768x3584 .bf16) (harg1 : arg1.IsWhole) (arg2 : Memref sig .tc .vmem S3584x256 .i8) (harg2 : arg2.IsWhole) (arg3 : Memref sig .tc .vmem S8x512 .i32) (harg3 : arg3.IsWhole) (arg4 : Memref sig .tc .vmem S32x28x8x128 .i32) (harg4 : arg4.IsWhole)
    (arg5 : Memref sig .tc .vmem S768x512 .bf16) (harg5 : arg5.IsWhole) (arg6 : Memref sig .tc .vmem S768x512 .f32) (harg6 : arg6.IsWhole) (arg7 : Memref sig .tc .vmem S4x1792x128 .i32) (harg7 : arg7.IsWhole) (v0 : IVec S8x128 32) (v5 : IVec S16x128 1) (v9 v25 v29 : IVec S8x128 32) (c0_i32_16 : BitVec 32) (v31 : Vec F S8x128 .i32)
    (f2 : Buf (Elt F) (arg2.view.loc (c : Thread nD τ))) (f7 : Buf (Elt F) (arg7.view.loc (c : Thread nD τ)))
    {β : Type} (kont : Unit → Prog (TpuEff nD τ sig (Elt F) Λ₀ .tc) β) (K : β → sProp 𝕄) :
    iprop((arg2.view.loc (c : Thread nD τ) ↦[arg2.view.set]{fullShare} f2) ∗ (arg7.view.loc (c : Thread nD τ) ↦[arg7.view.set]{fullShare} f7) ∗
      (LInv c arg2 arg7 f2 (arg7.view.read (Elt F) f7) 3 (fun r => stored0 v5 v9 (k0_pay50 v31) (k0_pay51 v0) (codesBlk (arg2.view.read (Elt F) f2) r 128)) (fun r => stored1 v5 v9 (k0_pay50 v31) (k0_pay51 v0) (codesBlk (arg2.view.read (Elt F) f2) r 128)) 112 -∗
        wp frame (wpE (defs₀ (F := F)) Variants.none c none) Set.univ (kont ()) K)) ⊢
      wp frame (wpE (defs₀ (F := F)) Variants.none c none) Set.univ
        (Scf.Loop.for k0_t4_loop k0_t4_ok ⟨⟩ (k0_t4_body (F := F) i arg1 harg1 arg2 harg2 arg3 harg3 arg4 harg4 arg5 harg5 arg6 harg6 arg7 harg7 v0 v5 v9 v25 v29 c0_i32_16 v31) >>= kont) K := by
  iintro ⟨H2, H7, HK⟩
  iapply (Scf.wp_for_bind frame (wpE (defs₀ (F := F)) Variants.none c none) Set.univ k0_t4_loop.lb k0_t4_loop.ub k0_t4_loop.st k0_t4_ok ⟨⟩
    (k0_t4_body (F := F) i arg1 harg1 arg2 harg2 arg3 harg3 arg4 harg4 arg5 harg5 arg6 harg6 arg7 harg7 v0 v5 v9 v25 v29 c0_i32_16 v31) (fun k _ => LInv c arg2 arg7 f2 (arg7.view.read (Elt F) f7) 3 (fun r => stored0 v5 v9 (k0_pay50 v31) (k0_pay51 v0) (codesBlk (arg2.view.read (Elt F) f2) r 128)) (fun r => stored1 v5 v9 (k0_pay50 v31) (k0_pay51 v0) (codesBlk (arg2.view.read (Elt F) f2) r 128)) k)
    (fun k acc => step4 c i arg1 harg1 arg2 harg2 arg3 harg3 arg4 harg4 arg5 harg5 arg6 harg6 arg7 harg7 v0 v5 v9 v25 v29 c0_i32_16 v31 f2 _ k acc)) $$ [H2 H7]
  · unfold LInv
    isplitl [H2]
    · iexact H2
    iexists f7
    isplitl [H7]
    · iexact H7
    ipureintro
    exact (fill_zero _ _ _ _).symm
  iintro %acc Hinv
  iapply HK
  iexact Hinv

end Cert.KernelIdeal.Hand
end
-- ==== Proof.KI.Body.lean ====
/-
  The kernel body, run once on whole windows at any contents: the loads, the four loops by their rules, the two products, the two
  stores. `outY` and `outYs` name what it leaves in the two result blocks, as functions of the four input blocks.
-/
module

public import proofs.«01_k».proof.Proof.KI.Loop

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What the body computes, from the contents of its blocks -/

/-- What a load reads of contents `d`. -/
def ld {S : Shape} {e : EltTy} (d : Vec F S e) (r : LoadRect S) : Vec F r.shape e := fun y => d (r.idx y)

/-- One decoded plane: row `16r + 2i + q` is row `i` of trip `r`'s block `q`. -/
def plane (w0 w1 : ℕ → IVec S8x128 32) : IVec S1x1792x128 32 := fun y =>
  if (y 1).val % 2 = 0 then w0 ((y 1).val / 16) (ix2 ⟨(y 1).val % 16 / 2, by omega⟩ (y 2))
  else w1 ((y 1).val / 16) (ix2 ⟨(y 1).val % 16 / 2, by omega⟩ (y 2))

/-- Plane 0 of the decoded weights: columns `0 … 127` of the block. -/
def plane0 (d2 : Vec F S3584x256 .i8) (d3 : Vec F S8x512 .i32) : IVec S1x1792x128 32 :=
  plane (fun r => stored0 k0_pay36 k0_pay37 (k0_pay38 (ld d3 (Rect.unit (s := S8x512) ![0, 0] S8x128.size inb_S8x512_S8x128_0_0).toLoadRect)) k0_pay39 (codesBlk d2 r 0))
    (fun r => stored1 k0_pay36 k0_pay37 (k0_pay38 (ld d3 (Rect.unit (s := S8x512) ![0, 0] S8x128.size inb_S8x512_S8x128_0_0).toLoadRect)) k0_pay39 (codesBlk d2 r 0))

/-- Plane 1 of the decoded weights: columns `128 … 255` of the block. -/
def plane1 (d2 : Vec F S3584x256 .i8) (d3 : Vec F S8x512 .i32) : IVec S1x1792x128 32 :=
  plane (fun r => stored0 k0_pay36 k0_pay37 (k0_pay42 (ld d3 (Rect.unit (s := S8x512) ![0, 128] S8x128.size inb_S8x512_S8x128_0_128).toLoadRect)) k0_pay43 (codesBlk d2 r 0))
    (fun r => stored1 k0_pay36 k0_pay37 (k0_pay42 (ld d3 (Rect.unit (s := S8x512) ![0, 128] S8x128.size inb_S8x512_S8x128_0_128).toLoadRect)) k0_pay43 (codesBlk d2 r 0))

/-- Plane 2 of the decoded weights: columns `256 … 383` of the block. -/
def plane2 (d2 : Vec F S3584x256 .i8) (d3 : Vec F S8x512 .i32) : IVec S1x1792x128 32 :=
  plane (fun r => stored0 k0_pay36 k0_pay37 (k0_pay46 (ld d3 (Rect.unit (s := S8x512) ![0, 256] S8x128.size inb_S8x512_S8x128_0_256).toLoadRect)) k0_pay47 (codesBlk d2 r 128))
    (fun r => stored1 k0_pay36 k0_pay37 (k0_pay46 (ld d3 (Rect.unit (s := S8x512) ![0, 256] S8x128.size inb_S8x512_S8x128_0_256).toLoadRect)) k0_pay47 (codesBlk d2 r 128))

/-- Plane 3 of the decoded weights: columns `384 … 511` of the block. -/
def plane3 (d2 : Vec F S3584x256 .i8) (d3 : Vec F S8x512 .i32) : IVec S1x1792x128 32 :=
  plane (fun r => stored0 k0_pay36 k0_pay37 (k0_pay50 (ld d3 (Rect.unit (s := S8x512) ![0, 384] S8x128.size inb_S8x512_S8x128_0_384).toLoadRect)) (k0_pay51 (iota .tc S8x128 32 [1] iota_S8x128_d1_w32)) (codesBlk d2 r 128))
    (fun r => stored1 k0_pay36 k0_pay37 (k0_pay50 (ld d3 (Rect.unit (s := S8x512) ![0, 384] S8x128.size inb_S8x512_S8x128_0_384).toLoadRect)) (k0_pay51 (iota .tc S8x128 32 [1] iota_S8x128_d1_w32)) (codesBlk d2 r 128))

/-- The sparse product, left in the second result's block. -/
def outYs (d1 : Vec F S768x3584 .bf16) (d4 : Vec F S32x28x8x128 .i32) : Vec F S768x512 .f32 :=
  k0_pay2 (k0_pay54 (ld d1 (Rect.unit (s := S768x3584) ![0, 0] S768x3584.size inb_S768x3584_S768x3584_0_0).toLoadRect)) (k0_pay1
    (k0_pay56 (ld d4 (Rect.unit (s := S32x28x8x128) ![0, 0, 0, 0] S32x1x8x128.size inb_S32x28x8x128_S32x1x8x128_0_0_0_0).toLoadRect))
    (k0_pay57 (ld d4 (Rect.unit (s := S32x28x8x128) ![0, 1, 0, 0] S32x1x8x128.size inb_S32x28x8x128_S32x1x8x128_0_1_0_0).toLoadRect))
    (k0_pay58 (ld d4 (Rect.unit (s := S32x28x8x128) ![0, 2, 0, 0] S32x1x8x128.size inb_S32x28x8x128_S32x1x8x128_0_2_0_0).toLoadRect))
    (k0_pay59 (ld d4 (Rect.unit (s := S32x28x8x128) ![0, 3, 0, 0] S32x1x8x128.size inb_S32x28x8x128_S32x1x8x128_0_3_0_0).toLoadRect))
    (k0_pay60 (ld d4 (Rect.unit (s := S32x28x8x128) ![0, 4, 0, 0] S32x1x8x128.size inb_S32x28x8x128_S32x1x8x128_0_4_0_0).toLoadRect))
    (k0_pay61 (ld d4 (Rect.unit (s := S32x28x8x128) ![0, 5, 0, 0] S32x1x8x128.size inb_S32x28x8x128_S32x1x8x128_0_5_0_0).toLoadRect))
    (k0_pay62 (ld d4 (Rect.unit (s := S32x28x8x128) ![0, 6, 0, 0] S32x1x8x128.size inb_S32x28x8x128_S32x1x8x128_0_6_0_0).toLoadRect))
    (k0_pay63 (ld d4 (Rect.unit (s := S32x28x8x128) ![0, 7, 0, 0] S32x1x8x128.size inb_S32x28x8x128_S32x1x8x128_0_7_0_0).toLoadRect))
    (k0_pay65 (F := F) (k0_pay64 (ld d4 (Rect.unit (s := S32x28x8x128) ![0, 8, 0, 0] S32x1x8x128.size inb_S32x28x8x128_S32x1x8x128_0_8_0_0).toLoadRect)))
    (k0_pay66 (ld d4 (Rect.unit (s := S32x28x8x128) ![0, 9, 0, 0] S32x1x8x128.size inb_S32x28x8x128_S32x1x8x128_0_9_0_0).toLoadRect))
    (k0_pay67 (ld d4 (Rect.unit (s := S32x28x8x128) ![0, 10, 0, 0] S32x1x8x128.size inb_S32x28x8x128_S32x1x8x128_0_10_0_0).toLoadRect))
    (k0_pay68 (ld d4 (Rect.unit (s := S32x28x8x128) ![0, 11, 0, 0] S32x1x8x128.size inb_S32x28x8x128_S32x1x8x128_0_11_0_0).toLoadRect))
    (k0_pay69 (ld d4 (Rect.unit (s := S32x28x8x128) ![0, 12, 0, 0] S32x1x8x128.size inb_S32x28x8x128_S32x1x8x128_0_12_0_0).toLoadRect))
    (k0_pay70 (ld d4 (Rect.unit (s := S32x28x8x128) ![0, 13, 0, 0] S32x1x8x128.size inb_S32x28x8x128_S32x1x8x128_0_13_0_0).toLoadRect))
    (k0_pay71 (ld d4 (Rect.unit (s := S32x28x8x128) ![0, 14, 0, 0] S32x1x8x128.size inb_S32x28x8x128_S32x1x8x128_0_14_0_0).toLoadRect))
    (k0_pay72 (ld d4 (Rect.unit (s := S32x28x8x128) ![0, 15, 0, 0] S32x1x8x128.size inb_S32x28x8x128_S32x1x8x128_0_15_0_0).toLoadRect))
    (k0_pay73 (ld d4 (Rect.unit (s := S32x28x8x128) ![0, 16, 0, 0] S32x1x8x128.size inb_S32x28x8x128_S32x1x8x128_0_16_0_0).toLoadRect))
    (k0_pay74 (ld d4 (Rect.unit (s := S32x28x8x128) ![0, 17, 0, 0] S32x1x8x128.size inb_S32x28x8x128_S32x1x8x128_0_17_0_0).toLoadRect))
    (k0_pay75 (ld d4 (Rect.unit (s := S32x28x8x128) ![0, 18, 0, 0] S32x1x8x128.size inb_S32x28x8x128_S32x1x8x128_0_18_0_0).toLoadRect))
    (k0_pay76 (ld d4 (Rect.unit (s := S32x28x8x128) ![0, 19, 0, 0] S32x1x8x128.size inb_S32x28x8x128_S32x1x8x128_0_19_0_0).toLoadRect))
    (k0_pay77 (ld d4 (Rect.unit (s := S32x28x8x128) ![0, 20, 0, 0] S32x1x8x128.size inb_S32x28x8x128_S32x1x8x128_0_20_0_0).toLoadRect))
    (k0_pay78 (ld d4 (Rect.unit (s := S32x28x8x128) ![0, 21, 0, 0] S32x1x8x128.size inb_S32x28x8x128_S32x1x8x128_0_21_0_0).toLoadRect))
    (k0_pay79 (ld d4 (Rect.unit (s := S32x28x8x128) ![0, 22, 0, 0] S32x1x8x128.size inb_S32x28x8x128_S32x1x8x128_0_22_0_0).toLoadRect))
    (k0_pay80 (ld d4 (Rect.unit (s := S32x28x8x128) ![0, 23, 0, 0] S32x1x8x128.size inb_S32x28x8x128_S32x1x8x128_0_23_0_0).toLoadRect))
    (ld d4 (Rect.unit (s := S32x28x8x128) ![0, 24, 0, 0] S32x1x8x128.size inb_S32x28x8x128_S32x1x8x128_0_24_0_0).toLoadRect)
    (ld d4 (Rect.unit (s := S32x28x8x128) ![0, 25, 0, 0] S32x1x8x128.size inb_S32x28x8x128_S32x1x8x128_0_25_0_0).toLoadRect)
    (ld d4 (Rect.unit (s := S32x28x8x128) ![0, 26, 0, 0] S32x1x8x128.size inb_S32x28x8x128_S32x1x8x128_0_26_0_0).toLoadRect)
    (ld d4 (Rect.unit (s := S32x28x8x128) ![0, 27, 0, 0] S32x1x8x128.size inb_S32x28x8x128_S32x1x8x128_0_27_0_0).toLoadRect))

/-- The sum of the dense and the sparse product, rounded, left in the first result's block. -/
def outY (d1 : Vec F S768x3584 .bf16) (d2 : Vec F S3584x256 .i8) (d3 : Vec F S8x512 .i32) (d4 : Vec F S32x28x8x128 .i32) : Vec F S768x512 .bf16 :=
  k0_pay3 (k0_pay55 (ld d1 (Rect.unit (s := S768x3584) ![0, 0] S768x3584.size inb_S768x3584_S768x3584_0_0).toLoadRect)
    (plane0 d2 d3) (plane1 d2 d3) (plane2 d2 d3) (plane3 d2 d3)) (outYs d1 d4)

/-! ## Loads and stores of the body -/

/-- A plane that a whole loop filled, loaded. -/
theorem readAt_fill {sp : Space} (arg7 : Memref sig .tc sp S4x1792x128 .i32) (f7 : arg7.view.ty.Contents (Elt F)) (old : IVec S4x1792x128 32)
    (g : ℕ) (w0 w1 : ℕ → IVec S8x128 32) (inb) (hf : arg7.view.read (Elt F) f7 = fill old g w0 w1 112) :
    arg7.view.readAt (Elt F) (Rect.unit (s := S4x1792x128) ![g, 0, 0] S1x1792x128.size inb).toLoadRect f7 = plane w0 w1 := by
  funext y
  refine (congrFun hf _).trans ?_
  have y0 : (y 0).val < 1 := (y 0).isLt
  have y1 : (y 1).val < 1792 := (y 1).isLt
  have e0 : (((Rect.unit (s := S4x1792x128) ![g, 0, 0] S1x1792x128.size inb).toLoadRect).idx y 0).val = g := by
    show g + 1 * (y 0).val = g; omega
  have e1 : (((Rect.unit (s := S4x1792x128) ![g, 0, 0] S1x1792x128.size inb).toLoadRect).idx y 1).val = (y 1).val := by
    show 0 + 1 * (y 1).val = _; omega
  have e2 : ((Rect.unit (s := S4x1792x128) ![g, 0, 0] S1x1792x128.size inb).toLoadRect).idx y 2 = (y 2 : Fin 128) := by
    apply Fin.ext; show 0 + 1 * (y 2).val = _; omega
  unfold fill plane
  rw [if_pos ⟨e0, by rw [e1]; omega⟩]
  simp only [e1, e2]

/-- Loading plane `g` after another plane's loop is loading it before. -/
theorem readAt_fill_of_ne {sp : Space} (arg7 : Memref sig .tc sp S4x1792x128 .i32) (f7 f7' : arg7.view.ty.Contents (Elt F))
    (g g' k : ℕ) (w0 w1 : ℕ → IVec S8x128 32) (hg : g ≠ g') (inb) (hf : arg7.view.read (Elt F) f7' = fill (arg7.view.read (Elt F) f7) g' w0 w1 k) :
    arg7.view.readAt (Elt F) (Rect.unit (s := S4x1792x128) ![g, 0, 0] S1x1792x128.size inb).toLoadRect f7'
      = arg7.view.readAt (Elt F) (Rect.unit (s := S4x1792x128) ![g, 0, 0] S1x1792x128.size inb).toLoadRect f7 := by
  funext y
  refine (congrFun hf _).trans ?_
  have y0 : (y 0).val < 1 := (y 0).isLt
  have e0 : (((Rect.unit (s := S4x1792x128) ![g, 0, 0] S1x1792x128.size inb).toLoadRect).idx y 0).val = g := by
    show g + 1 * (y 0).val = g; omega
  unfold fill
  rw [if_neg (fun h => hg (e0.symm.trans h.1))]
  rfl

/-- The whole block written reads as what was written. -/
theorem read_whole_write {sp : Space} {e : EltTy} (arg : Memref sig .tc sp S768x512 e) (f : arg.view.ty.Contents (Elt F)) (w : Vec F S768x512 e) :
    arg.view.read (Elt F) (arg.view.writes (Elt F) f [⟨Rect.unit (s := S768x512) ![0, 0] S768x512.size inb_S768x512_S768x512_0_0, w⟩]) = w := by
  funext y
  have e : y = (Rect.unit (s := S768x512) ![0, 0] S768x512.size inb_S768x512_S768x512_0_0).emb y := by
    funext a; apply Fin.ext
    match a with
    | ⟨0, _⟩ => show (y 0).val = 0 + 1 * (y 0).val; omega
    | ⟨1, _⟩ => show (y 1).val = 0 + 1 * (y 1).val; omega
  refine (congrArg _ e).trans ?_
  exact View.read_writes_cons_emb arg.view f (Rect.unit (s := S768x512) ![0, 0] S768x512.size inb_S768x512_S768x512_0_0) w [] y

/-- and loaded whole, too. -/
theorem readAt_whole_write {sp : Space} {e : EltTy} (arg : Memref sig .tc sp S768x512 e) (f : arg.view.ty.Contents (Elt F)) (w : Vec F S768x512 e) :
    arg.view.readAt (Elt F) (Rect.unit (s := S768x512) ![0, 0] S768x512.size inb_S768x512_S768x512_0_0).toLoadRect
      (arg.view.writes (Elt F) f [⟨Rect.unit (s := S768x512) ![0, 0] S768x512.size inb_S768x512_S768x512_0_0, w⟩]) = w := by
  funext y
  refine (congrFun (read_whole_write arg f w) _).trans ?_
  congr 1
  funext a; apply Fin.ext
  match a with
  | ⟨0, _⟩ => show 0 + 1 * (y 0).val = (y 0).val; omega
  | ⟨1, _⟩ => show 0 + 1 * (y 1).val = (y 1).val; omega

/-! ## The run -/

/-- On whole windows at any contents, the body leaves `outYs` and `outY` in the result blocks, the input blocks as they were, the
    scratch at some contents. -/
theorem bodyRun (c : Dev nD) (i : grid0.Coords) (arg1 : Memref sig .tc .vmem S768x3584 .bf16) (harg1 : arg1.IsWhole) (arg2 : Memref sig .tc .vmem S3584x256 .i8) (harg2 : arg2.IsWhole) (arg3 : Memref sig .tc .vmem S8x512 .i32) (harg3 : arg3.IsWhole) (arg4 : Memref sig .tc .vmem S32x28x8x128 .i32) (harg4 : arg4.IsWhole)
    (arg5 : Memref sig .tc .vmem S768x512 .bf16) (harg5 : arg5.IsWhole) (arg6 : Memref sig .tc .vmem S768x512 .f32) (harg6 : arg6.IsWhole) (arg7 : Memref sig .tc .vmem S4x1792x128 .i32) (harg7 : arg7.IsWhole)
    (f1 : Buf (Elt F) (arg1.view.loc (c : Thread nD τ))) (f2 : Buf (Elt F) (arg2.view.loc (c : Thread nD τ))) (f3 : Buf (Elt F) (arg3.view.loc (c : Thread nD τ))) (f4 : Buf (Elt F) (arg4.view.loc (c : Thread nD τ))) (f5 : Buf (Elt F) (arg5.view.loc (c : Thread nD τ))) (f6 : Buf (Elt F) (arg6.view.loc (c : Thread nD τ))) (f7 : Buf (Elt F) (arg7.view.loc (c : Thread nD τ)))
    (K : PUnit → sProp 𝕄) :
    iprop((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗
      (∀ g5 : Buf (Elt F) (arg5.view.loc (c : Thread nD τ)), ∀ g6 : Buf (Elt F) (arg6.view.loc (c : Thread nD τ)), ∀ g7 : Buf (Elt F) (arg7.view.loc (c : Thread nD τ)),
        iprop((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} g5) ∗ (arg6.view.loc (c : Thread nD τ) ↦[arg6.view.set]{fullShare} g6) ∗ (arg7.view.loc (c : Thread nD τ) ↦[arg7.view.set]{fullShare} g7) ∗
          ⌜arg5.view.read (Elt F) g5 = outY (arg1.view.read (Elt F) f1) (arg2.view.read (Elt F) f2) (arg3.view.read (Elt F) f3) (arg4.view.read (Elt F) f4)⌝ ∗
          ⌜arg6.view.read (Elt F) g6 = outYs (arg1.view.read (Elt F) f1) (arg4.view.read (Elt F) f4)⌝) -∗ K ⟨⟩)) ⊢
      wp frame (wpE (defs₀ (F := F)) Variants.none c none) Set.univ (cc0_linear (F := F) i arg1 harg1 arg2 harg2 arg3 harg3 arg4 harg4 arg5 harg5 arg6 harg6 arg7 harg7) K := by
  rw [cc0_linear_eq_skeleton]; unfold cc0_linear_skel
  iintro ⟨H1, H2, H3, H4, H5, H6, H7, HK⟩
  sl_exec
  iapply (loop1 c i arg1 harg1 arg2 harg2 arg3 harg3 arg4 harg4 arg5 harg5 arg6 harg6 arg7 harg7 _ f2 f7)
  isplitl [H2]; · iexact H2
  isplitl [H7]; · iexact H7
  unfold LInv
  iintro ⟨H2, %g1, H7, %hg1⟩
  sl_exec
  iapply (loop2 c i arg1 harg1 arg2 harg2 arg3 harg3 arg4 harg4 arg5 harg5 arg6 harg6 arg7 harg7 _ f2 g1)
  isplitl [H2]; · iexact H2
  isplitl [H7]; · iexact H7
  unfold LInv
  iintro ⟨H2, %g2, H7, %hg2⟩
  sl_exec
  iapply (loop3 c i arg1 harg1 arg2 harg2 arg3 harg3 arg4 harg4 arg5 harg5 arg6 harg6 arg7 harg7 _ _ _ _ _ _ f2 g2)
  isplitl [H2]; · iexact H2
  isplitl [H7]; · iexact H7
  unfold LInv
  iintro ⟨H2, %g3, H7, %hg3⟩
  sl_exec
  iapply (loop4 c i arg1 harg1 arg2 harg2 arg3 harg3 arg4 harg4 arg5 harg5 arg6 harg6 arg7 harg7 _ _ _ _ _ _ _ f2 g3)
  isplitl [H2]; · iexact H2
  isplitl [H7]; · iexact H7
  unfold LInv
  iintro ⟨H2, %g4, H7, %hg4⟩
  sl_exec
  sl_step
  iapply HK $$ %_ %_ %_
  isplitl [H1]; · iexact H1
  isplitl [H2]; · iexact H2
  isplitl [H3]; · iexact H3
  isplitl [H4]; · iexact H4
  isplitl [H5]; · iexact H5
  isplitl [H6]; · iexact H6
  isplitl [H7]; · iexact H7
  have hys : (bodyRun.sl.v169 c arg1 arg4 arg6 f1 f4 : Vec F S768x512 .f32) = outYs (arg1.view.read (Elt F) f1) (arg4.view.read (Elt F) f4) :=
    readAt_whole_write arg6 _ _
  isplitr
  · ipureintro
    refine (read_whole_write arg5 f5 _).trans ?_
    rw [hys]
    unfold outY
    refine congrArg (fun z => k0_pay3 z _) ?_
    have p3 := readAt_fill arg7 g4 _ 3 _ _ inb_S4x1792x128_S1x1792x128_3_0_0 hg4
    have p2 := (readAt_fill_of_ne arg7 g3 g4 2 3 112 _ _ (by decide) inb_S4x1792x128_S1x1792x128_2_0_0 hg4).trans (readAt_fill arg7 g3 _ 2 _ _ _ hg3)
    have p1 := (readAt_fill_of_ne arg7 g3 g4 1 3 112 _ _ (by decide) inb_S4x1792x128_S1x1792x128_1_0_0 hg4).trans
      ((readAt_fill_of_ne arg7 g2 g3 1 2 112 _ _ (by decide) _ hg3).trans (readAt_fill arg7 g2 _ 1 _ _ _ hg2))
    have p0 := (readAt_fill_of_ne arg7 g3 g4 0 3 112 _ _ (by decide) inb_S4x1792x128_S1x1792x128_0_0_0 hg4).trans
      ((readAt_fill_of_ne arg7 g2 g3 0 2 112 _ _ (by decide) _ hg3).trans ((readAt_fill_of_ne arg7 g1 g2 0 1 112 _ _ (by decide) _ hg2).trans
        (readAt_fill arg7 g1 _ 0 _ _ _ hg1)))
    unfold bodyRun.sl.r_1
    rw [p0, p1, p2, p3]
    rfl
  · ipureintro
    exact read_whole_write arg6 f6 _

end Cert.KernelIdeal.Hand
end
-- ==== Proof.KI.Launch.lean ====
/-
  The pipelined kernel's launch: the proof data (each input block left in place, each result block at what the body leaves), the
  body's obligation from `bodyRun`, the run of `main`, and the frame claim with every counter at zero.
-/
module

public import proofs.«01_k».proof.Proof.KI.Body

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev bX (c : Dev nD) (t : Fin cfg0.N) : Vec F S768x3584 .bf16 := iblk m c 0 t
abbrev bC (c : Dev nD) (t : Fin cfg0.N) : Vec F S3584x256 .i8 := iblk m c 1 t
abbrev bT (c : Dev nD) (t : Fin cfg0.N) : Vec F S8x512 .i32 := iblk m c 2 t
abbrev bS (c : Dev nD) (t : Fin cfg0.N) : Vec F S32x28x8x128 .i32 := iblk m c 3 t

/-- The proof data: the arrays as the region finds them, the results' blocks after the body at `outY` and `outYs`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outY (bX m c t) (bC m c t) (bT m c t) (bS m c t)
    | ⟨5, _⟩ => outYs (bX m c t) (bS m c t)
  Φ _ := Pipeline.ΦA spec0 c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = outY (bX m c t) (bC m c t) (bT m c t) (bS m c t) := by dsimp only [dats]
theorem after0_5 (c : Dev nD) (t : Fin cfg0.N) : (dats m 0 c).after 5 t = outYs (bX m c t) (bS m c t) := by dsimp only [dats]
theorem before0_0 (c : Dev nD) (t : Fin cfg0.N) (d) : (dats m 0 c).before 0 t d = iblk m c 0 t := before0_0_of m (dats m 0 c) (A_eq m c 0) (after0_0 m c) t d
theorem before0_1 (c : Dev nD) (t : Fin cfg0.N) (d) : (dats m 0 c).before 1 t d = iblk m c 1 t := before0_1_of m (dats m 0 c) (A_eq m c 1) (after0_1 m c) t d
theorem before0_2 (c : Dev nD) (t : Fin cfg0.N) (d) : (dats m 0 c).before 2 t d = iblk m c 2 t := before0_2_of m (dats m 0 c) (A_eq m c 2) (after0_2 m c) t d
theorem before0_3 (c : Dev nD) (t : Fin cfg0.N) (d) : (dats m 0 c).before 3 t d = iblk m c 3 t := before0_3_of m (dats m 0 c) (A_eq m c 3) (after0_3 m c) t d

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl, after0_0, after0_1, after0_2, after0_3, after0_4, after0_5]
  simp only [before0_0, before0_1, before0_2, before0_3]
  rw [show (dats m 0 c).Φ t.castSucc = Pipeline.ΦA spec0 c from rfl]
  unfold Pipeline.ΦA
  rw [scopedRest0_eq]
  unfold Dat.owesAt Pipeline.owesWithin
  rw [show (dats m 0 c).owed t.castSucc = 0 from rfl, show (dats m 0 c).owed t.succ = 0 from rfl]
  unfold owns
  iintro ⟨⟨⟨%f7, H7⟩, Hg⟩, ⟨%W, -, HW⟩, ⟨%d0, %f1, %e1, H1⟩, ⟨%d1, %f2, %e2, H2⟩, ⟨%d2, %f3, %e3, H3⟩, ⟨%d3, %f4, %e4, H4⟩, ⟨%d4, %f5, -, H5⟩, ⟨%d5, %f6, -, H6⟩⟩
  iapply (bodyRun c (grid0.coords t) _ _ _ _ _ _ _ _ _ _ _ _ _ _ f1 f2 f3 f4 f5 f6 f7 _)
  isplitl [H1]; · iexact H1
  isplitl [H2]; · iexact H2
  isplitl [H3]; · iexact H3
  isplitl [H4]; · iexact H4
  isplitl [H5]; · iexact H5
  isplitl [H6]; · iexact H6
  isplitl [H7]
  · rw [show (Memref.whole cc0_scratch0).view.set = Finset.univ from View.set_whole _]; iexact H7
  iintro %g5 %g6 %g7 ⟨H1, H2, H3, H4, H5, H6, H7, %e5, %e6⟩
  isplitl [H7 Hg]
  · isplitl [H7]
    · iexists g7; rw [show (Memref.whole cc0_scratch0).view.set = Finset.univ from View.set_whole _]; iexact H7
    iexact Hg
  isplitl [HW]
  · iexists W; isplitr
    · ipureintro; exact fun _ _ => Or.inl trivial
    iexact HW
  isplitl [H1]; · iexists f1; isplitr; swap; · iexact H1
                  ipureintro; exact e1
  isplitl [H2]; · iexists f2; isplitr; swap; · iexact H2
                  ipureintro; exact e2
  isplitl [H3]; · iexists f3; isplitr; swap; · iexact H3
                  ipureintro; exact e3
  isplitl [H4]; · iexists f4; isplitr; swap; · iexact H4
                  ipureintro; exact e4
  isplitl [H5]
  · iexists g5; isplitr; swap; · iexact H5
    ipureintro; rw [e5, e1, e2, e3, e4]
  iexists g6; isplitr; swap; · iexact H6
  ipureintro; rw [e6, e1, e4]

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
theorem run_main : θ_run defs (onTc (τ := τ) (main (F := F))) (s₀ m ρ) (fun r => Pipeline.FramePost cfgs (dats m) 0 (V m) r ∧ r.2.sem = fun _ => 0) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)
    (Q' := fun r => Pipeline.FramePost cfgs (dats m) 0 (V m) r ∧ r.2.sem = fun _ => 0) (hQ' := fun _ h => h)

/-- The arguments come back as they were and every counter at zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).1 1).trans (((dats m 0 c).arrAt_in 1 rfl _).trans ((A_eq m c 1).trans (V_main_arg1 m c))),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c)⟩, h.2⟩) (run_main m ρ)

end Cert.KernelIdeal.Hand
end
-- ==== Proof.Spec.lean ====
/-
  The matrix product both programs compute, over their arguments: the dense weights, one table entry per half byte of the codes,
  and the sparse weights, two 16-bit halves of a word.
-/
module

public import Idealize.ShloMosaic.Lib.ValueIdx
public import Idealize.ShloMosaic.PureOps.Ideal.Laws

@[expose] public section

noncomputable section

namespace Cert.Spec

open Idealize.ShloMosaic Idealize.ShloMosaic.ValueIdx

/-- Half byte `p` of a code: bits `0 … 3` at `p = 0`, bits `4 … 7` at `p = 1`. -/
def nib (b : BitVec 8) (p : ℕ) : Fin 16 := ⟨b.toNat / 16 ^ p % 16, Nat.mod_lt _ (by decide)⟩

/-- Entry `(k, n)` of the dense weights, as 16 bits: table row `n` at the half byte `n % 2` of the code at `(k, n / 2)`. -/
def denseBits (codes : (⟨2, ![3584, 9472]⟩ : Shape).Idx → BitVec 8) (lut : (⟨2, ![18944, 16]⟩ : Shape).Idx → BitVec 16)
    (k : Fin 3584) (n : Fin 18944) : BitVec 16 :=
  lut (ix2 n (nib (codes (ix2 k ⟨n.val / 2, by omega⟩)) (n.val % 2)))

/-- Entry `(k, n)` of the sparse weights, as 16 bits: half `n % 2` of the word at `(n / 16, k / 128, n / 2 % 8, k % 128)`. -/
def sparseBits (words : (⟨1, ![33947648]⟩ : Shape).Idx → BitVec 32) (k : Fin 3584) (n : Fin 18944) : BitVec 16 :=
  (words (ix1 ⟨((n.val / 16 * 28 + k.val / 128) * 8 + n.val / 2 % 8) * 128 + k.val % 128, by omega⟩)).extractLsb' (16 * (n.val % 2)) 16

/-- The product of the flattened activations with a matrix of 16-bit patterns read as bf16 numbers. -/
def prod (x : (⟨3, ![3, 256, 3584]⟩ : Shape).Idx → Ideal .bf16) (w : Fin 3584 → Fin 18944 → BitVec 16)
    (i : (⟨2, ![768, 18944]⟩ : Shape).Idx) : EReal :=
  ∑ k : Fin 3584, x (ix3 ⟨(i 0).val / 256, by have : (i 0).val < 768 := (i 0).isLt; omega⟩ ⟨(i 0).val % 256, Nat.mod_lt _ (by decide)⟩ k)
    * FloatOps.ofBits (F := Ideal) .bf16 (w k (i 1))

end Cert.Spec
end
end
-- ==== Proof.KI.Decode.lean ====
/-
  What the decoding stores, lane by lane: the word's two halves are the table's entries at two half bytes of the codes.
-/
module

public import proofs.«01_k».proof.Proof.KI.Body
public import proofs.«01_k».proof.Proof.Spec
public import Idealize.ShloMosaic.Lib.BitcastFour

@[expose] public section

set_option maxRecDepth 16000

noncomputable section

namespace Cert.KernelIdeal.Hand

open Cert.KernelIdeal Cert.KernelIdeal.Gen Cert.Spec
open Idealize.ShloMosaic

variable {F : FTy → Type} [FloatOps F]

/-! ## Words -/

/-- The 16 bits a word's table entry has at a half byte: the low half of table word `n % 8`, or the high half from `8` on. -/
def entry (T : Fin 8 → BitVec 32) (n : Fin 16) : BitVec 16 :=
  (T ⟨n.val % 8, Nat.mod_lt _ (by decide)⟩).extractLsb' (16 * (n.val / 8)) 16

/-- A lookup index into eight rows: the low three bits, with the wrap of a negative index that never happens. -/
abbrev low3 (v : BitVec 32) : BitVec 32 :=
  Scalar.select (IntOp.cmpi .slt (IntOp.andi v 7#32) 0#32) (IntOp.addi (IntOp.andi v 7#32) 8#32) (IntOp.andi v 7#32)

theorem and7_lt (v : BitVec 32) : (v &&& 7#32).toNat < 8 := by
  rw [BitVec.toNat_and]; exact Nat.lt_of_le_of_lt Nat.and_le_right (by decide)

theorem low3_eq (v : BitVec 32) : low3 v = v &&& 7#32 := by
  have h := and7_lt v
  have hs : (v &&& 7#32).slt 0#32 = false := by
    rw [BitVec.slt_eq_decide, BitVec.toInt_eq_toNat_of_lt (by omega)]; simp
  unfold low3 IntOp.cmpi IntOp.andi
  simp only [hs]; rfl

/-- A code word shifted to a half byte: its low three bits and its fourth bit say which. -/
structure AtNib (v : BitVec 32) (n : Fin 16) : Prop where
  low : (v &&& 7#32).toNat = n.val % 8
  high : v &&& 8#32 = BitVec.ofNat 32 (8 * (n.val / 8))

theorem shift_right {v : BitVec 32} {n : Fin 16} (h : AtNib v n) (w : BitVec 32) :
    (IntOp.shrui .vector w (IntOp.shli .vector (IntOp.andi v 8#32) 1#32)).extractLsb' 0 16 = w.extractLsb' (16 * (n.val / 8)) 16 := by
  have : n.val / 8 < 2 := by omega
  unfold IntOp.andi; rw [h.high]
  generalize n.val / 8 = q at *
  apply BitVec.eq_of_getLsbD_eq
  intro i hi
  interval_cases q <;> simp [IntOp.shrui, IntOp.shli, BitVec.getLsbD_extractLsb', hi]

theorem shift_left {v : BitVec 32} {n : Fin 16} (h : AtNib v n) (w : BitVec 32) :
    (IntOp.shli .vector w (IntOp.subi 16#32 (IntOp.shli .vector (IntOp.andi v 8#32) 1#32))).extractLsb' 16 16 = w.extractLsb' (16 * (n.val / 8)) 16 := by
  have : n.val / 8 < 2 := by omega
  unfold IntOp.andi; rw [h.high]
  generalize n.val / 8 = q at *
  apply BitVec.eq_of_getLsbD_eq
  intro i hi
  interval_cases q <;> simp [IntOp.subi, IntOp.shli, BitVec.getLsbD_extractLsb', hi] <;> omega

theorem shrui_lt (x y : BitVec 32) (h : y.toNat < 32) : IntOp.shrui .vector x y = x >>> y := if_pos h

/-- Bits of a code word: at `8b + 4p` on, the half byte `p` of byte `b`. -/
theorem atNib_of_bits (v : BitVec 32) (c : BitVec 8) (p : ℕ) (hp : p < 2)
    (h : ∀ j < 4, v.getLsbD j = c.getLsbD (4 * p + j)) : AtNib v (nib c p) := by
  have e : v &&& 15#32 = BitVec.ofNat 32 (nib c p) := by
    have e' : BitVec.ofNat 32 (nib c p) = ((c.setWidth 32) >>> (4 * p)) &&& 15#32 := by
      clear h; interval_cases p <;> (revert c; decide +kernel)
    rw [e']
    apply BitVec.eq_of_getLsbD_eq
    intro i hi
    rcases Nat.lt_or_ge i 4 with h4 | h4
    · have := h i h4
      have hc : 4 * p + i < 32 := by omega
      simp [BitVec.getLsbD_and, BitVec.getLsbD_ushiftRight, BitVec.getLsbD_setWidth, this, hc]
    · have : (15#32).getLsbD i = false := by interval_cases i <;> rfl
      simp only [BitVec.getLsbD_and, this, Bool.and_false]
  constructor
  · have : v &&& 7#32 = (v &&& 15#32) &&& 7#32 := by rw [BitVec.and_assoc]; rfl
    rw [this, e]
    generalize nib c p = n
    revert n; decide
  · have : v &&& 8#32 = (v &&& 15#32) &&& 8#32 := by rw [BitVec.and_assoc]; rfl
    rw [this, e]
    generalize nib c p = n
    revert n; decide

/-! ## Lanes -/

theorem gather0_apply (x idx : IVec S8x128 32) (j : S8x128.Idx) :
    dynamicGather (s := S8x128) 0 x (shapeCast S8x128 (shapeCast S8x128x1 idx shapeCasts_S8x128_S8x128x1) shapeCasts_S8x128x1_S8x128) j
      = x (ix2 ⟨(idx j).toNat % 8, Nat.mod_lt _ (by decide)⟩ (j 1)) := by
  rw [shapeCast_shapeCast]
  refine congrArg x (funext fun b => ?_)
  match b with
  | ⟨0, _⟩ => rfl
  | ⟨1, _⟩ => rfl

theorem gather1_apply (x idx : IVec S8x128 32) (j : S8x128.Idx) :
    dynamicGather (s := S8x128) 1 x (shapeCast S8x128 (shapeCast S8x128x1 idx shapeCasts_S8x128_S8x128x1) shapeCasts_S8x128x1_S8x128) j
      = x (ix2 (j 0) ⟨(idx j).toNat % 128, Nat.mod_lt _ (by decide)⟩) := by
  rw [shapeCast_shapeCast]
  refine congrArg x (funext fun b => ?_)
  match b with
  | ⟨0, _⟩ => rfl
  | ⟨1, _⟩ => rfl

/-- The table's column at a lane. -/
abbrev colT (v11 : IVec S8x128 32) (l : Fin 128) : Fin 8 → BitVec 32 := fun s => v11 (ix2 s l)

/-- The eight rows looked up with a code word's low three bits. -/
theorem lookup (v11 idx : IVec S8x128 32) (j : S8x128.Idx) {v : BitVec 32} {n : Fin 16} (h : AtNib v n) (hi : idx j = low3 v) :
    dynamicGather (s := S8x128) 0 v11 (shapeCast S8x128 (shapeCast S8x128x1 idx shapeCasts_S8x128_S8x128x1) shapeCasts_S8x128x1_S8x128) j
      = colT v11 (j 1) ⟨n.val % 8, Nat.mod_lt _ (by decide)⟩ := by
  rw [gather0_apply, hi, low3_eq]
  have e : (⟨(v &&& 7#32).toNat % 8, Nat.mod_lt _ (by decide)⟩ : Fin 8) = ⟨n.val % 8, Nat.mod_lt _ (by decide)⟩ := Fin.ext (by
    show (v &&& 7#32).toNat % 8 = n.val % 8
    rw [h.low]; omega)
  rw [e]

theorem mask_apply (y : S16x128.Idx) : k0_pay36 y = if (y 0).val % 2 = 0 then 1#1 else 0#1 := by
  unfold k0_pay36
  show IntOp.cmpi .eq (IntOp.andi (iota .tc S16x128 32 [0] iota_S16x128_d0_w32 y) 1#32) 0#32 = _
  rw [iota_single_apply]
  exact (show ∀ r < 16, IntOp.cmpi .eq (IntOp.andi (BitVec.ofNat 32 r) 1#32) 0#32 = if r % 2 = 0 then 1#1 else 0#1 by decide) (y 0).val (y 0).isLt

/-- Even rows of one block and odd rows of another, packed: the low half of the first below the high half of the second. -/
theorem pack_apply (a b : IVec S8x128 32) (j : S8x128.Idx) :
    bitcast S8x128 32 (select k0_pay36 (bitcast S16x128 16 a bitcasts_S8x128_w32_S16x128_w16) (bitcast S16x128 16 b bitcasts_S8x128_w32_S16x128_w16))
      bitcasts_S16x128_w16_S8x128_w32 j = (b j).extractLsb' 16 16 ++ (a j).extractLsb' 0 16 := by
  have hj : (j 0).val < 8 := (j 0).isLt
  rw [bitcast_16_32]
  have hr : S8x128.row j = (j 0).val := rfl
  have row (p : ℕ) (hp) : ((bitcasts_S16x128_w16_S8x128_w32.srcIdx j p hp) 0).val = p :=
    Shape.Bitcasts.srcIdx_row _ j p hp ⟨0, by decide⟩ rfl
  have lane (p : ℕ) (hp) : ((bitcasts_S16x128_w16_S8x128_w32.srcIdx j p hp) 1).val = (j 1).val :=
    Shape.Bitcasts.srcIdx_other _ j p hp ⟨1, by decide⟩ (by show ¬ 1 + 2 = 2; omega)
  have back (w : IVec S8x128 32) (q p : ℕ) (hp) (hq : q < 2) (e : p = 2 * (j 0).val + q) :
      bitcast S16x128 16 w bitcasts_S8x128_w32_S16x128_w16 (bitcasts_S16x128_w16_S8x128_w32.srcIdx j p hp) = (w j).extractLsb' (16 * q) 16 := by
    rw [bitcast_32_16]
    have hr' : S16x128.row (bitcasts_S16x128_w16_S8x128_w32.srcIdx j p hp) = p := row p hp
    have e1 : S16x128.row (bitcasts_S16x128_w16_S8x128_w32.srcIdx j p hp) % 2 = q := by rw [hr']; omega
    rw [e1]
    congr 2
    funext c
    match c with
    | ⟨0, _⟩ => exact Fin.ext ((Shape.Bitcasts.srcIdx_row _ _ _ _ ⟨0, by decide⟩ rfl).trans (by rw [hr']; show p / 2 = (j 0).val; omega))
    | ⟨1, _⟩ => exact Fin.ext ((Shape.Bitcasts.srcIdx_other _ _ _ _ ⟨1, by decide⟩ (by show ¬ 1 + 2 = 2; omega)).trans (lane p hp))
  congr 1
  · show Scalar.select (k0_pay36 _) _ _ = _
    rw [mask_apply, row, if_neg (by rw [hr]; omega)]
    exact back b 1 _ _ (by decide) (by rw [hr])
  · show Scalar.select (k0_pay36 _) _ _ = _
    rw [mask_apply, row, if_pos (by rw [hr]; omega)]
    exact back a 0 _ _ (by decide) (by rw [hr]; rfl)

/-- A code word shifted right by a byte's place. -/
abbrev byteAt (v : BitVec 32) (b : BitVec 32) : BitVec 32 := IntOp.shrui .vector v b

theorem stored0_apply (v9 v11 v15 : IVec S8x128 32) (v176 : Vec F S32x128 .i8) (j : S8x128.Idx) {n0 n1 : Fin 16}
    (h0 : AtNib (byteAt (k0_pay4 v9 v15 v176 j) 0#32) n0) (h1 : AtNib (byteAt (k0_pay4 v9 v15 v176 j) 8#32) n1) :
    stored0 k0_pay36 v9 v11 v15 v176 j = entry (colT v11 (j 1)) n1 ++ entry (colT v11 (j 1)) n0 := by
  unfold stored0 k0_pay11
  refine (pack_apply _ _ j).trans ?_
  congr 1
  · refine (shift_left h1 (k0_pay7 v9 v11 v15 v176 j)).trans ?_
    unfold entry k0_pay7
    rw [lookup v11 _ j h1 rfl]
  · refine (shift_right h0 _).trans ?_
    unfold entry
    rw [lookup v11 _ j h0 rfl]

theorem stored1_apply (v9 v11 v15 : IVec S8x128 32) (v176 : Vec F S32x128 .i8) (j : S8x128.Idx) {n2 n3 : Fin 16}
    (h2 : AtNib (byteAt (k0_pay4 v9 v15 v176 j) 16#32) n2) (h3 : AtNib (byteAt (k0_pay4 v9 v15 v176 j) 24#32) n3) :
    stored1 k0_pay36 v9 v11 v15 v176 j = entry (colT v11 (j 1)) n3 ++ entry (colT v11 (j 1)) n2 := by
  unfold stored1
  refine (pack_apply _ _ j).trans ?_
  congr 1
  · refine (shift_left h3 _).trans ?_
    unfold entry
    rw [lookup v11 _ j h3 rfl]
  · refine (shift_right h2 _).trans ?_
    unfold entry
    rw [lookup v11 _ j h2 rfl]

/-! ## The code word of a lane -/

theorem shift_apply (y : S8x128.Idx) : k0_pay37 y = BitVec.ofNat 32 (4 * ((y 1).val % 2)) := by
  unfold k0_pay37
  show IntOp.muli (IntOp.andi (iota .tc S8x128 32 [1] iota_S8x128_d1_w32 y) 1#32) 4#32 = _
  rw [iota_single_apply]
  exact (show ∀ l < 128, IntOp.muli (IntOp.andi (BitVec.ofNat 32 l) 1#32) 4#32 = BitVec.ofNat 32 (4 * (l % 2)) by decide +kernel) (y 1).val (y 1).isLt

/-- Half byte `l % 2` of byte `b` of the word a lane gathers. -/
theorem word_nib (v15 : IVec S8x128 32) (v176 : Vec F S32x128 .i8) (i : Fin 8) (l : Fin 128) (p : ℕ) (hp : p < 128) (b : ℕ) (hb : b < 4)
    (h15 : v15 (ix2 i l) = BitVec.ofNat 32 p) :
    AtNib (byteAt (k0_pay4 k0_pay37 v15 v176 (ix2 i l)) (BitVec.ofNat 32 (8 * b)))
      (nib (v176 (ix2 ⟨4 * i.val + b, by omega⟩ ⟨p, hp⟩)) (l.val % 2)) := by
  have hw : k0_pay4 k0_pay37 v15 v176 (ix2 i l)
      = IntOp.shrui .vector (bitcast S8x128 32 v176 bitcasts_S32x128_w8_S8x128_w32 (ix2 i ⟨p, hp⟩)) (BitVec.ofNat 32 (4 * (l.val % 2))) := by
    unfold k0_pay4
    show IntOp.shrui .vector (dynamicGather (s := S8x128) 1 _ (shapeCast S8x128 (shapeCast S8x128x1 _ shapeCasts_S8x128_S8x128x1) shapeCasts_S8x128x1_S8x128) (ix2 i l)) (k0_pay37 (ix2 i l)) = _
    rw [gather1_apply, shift_apply]
    have e : Scalar.select (IntOp.cmpi .slt (v15 (ix2 i l)) 0#32) (IntOp.addi (v15 (ix2 i l)) 128#32) (v15 (ix2 i l)) = BitVec.ofNat 32 p := by
      rw [h15]
      exact (show ∀ p < 128, Scalar.select (IntOp.cmpi .slt (BitVec.ofNat 32 p) 0#32) (IntOp.addi (BitVec.ofNat 32 p) 128#32) (BitVec.ofNat 32 p) = BitVec.ofNat 32 p by decide +kernel) p hp
    have e' : (⟨(Scalar.select (IntOp.cmpi .slt (v15 (ix2 i l)) 0#32) (IntOp.addi (v15 (ix2 i l)) 128#32) (v15 (ix2 i l))).toNat % 128, Nat.mod_lt _ (by decide)⟩ : Fin 128) = ⟨p, hp⟩ :=
      Fin.ext ((congrArg (fun w : BitVec 32 => w.toNat % 128) e).trans (by show (BitVec.ofNat 32 p).toNat % 128 = p; rw [BitVec.toNat_ofNat]; omega))
    exact congrArg (fun q => IntOp.shrui .vector (bitcast S8x128 32 v176 bitcasts_S32x128_w8_S8x128_w32 (ix2 i q)) (BitVec.ofNat 32 (4 * (l.val % 2)))) e'
  refine atNib_of_bits _ _ _ (Nat.mod_lt _ (by decide)) fun k hk => ?_
  have t1 : (BitVec.ofNat 32 (8 * b)).toNat = 8 * b := by rw [BitVec.toNat_ofNat]; omega
  have t2 : (BitVec.ofNat 32 (4 * (l.val % 2))).toNat = 4 * (l.val % 2) := by rw [BitVec.toNat_ofNat]; omega
  rw [hw, byteAt, shrui_lt _ _ (by omega), shrui_lt _ _ (by omega), BitVec.ushiftRight_eq', BitVec.ushiftRight_eq', BitVec.getLsbD_ushiftRight, BitVec.getLsbD_ushiftRight, t1, t2]
  refine (bitcast_8_32_getLsbD_ix2 v176 bitcasts_S32x128_w8_S8x128_w32 i ⟨p, hp⟩ (4 * (l.val % 2) + (8 * b + k)) (by omega) ⟨4 * i.val + b, by omega⟩ (by show 4 * i.val + b = 4 * i.val + (4 * (l.val % 2) + (8 * b + k)) / 8; omega)).trans ?_
  rw [show (4 * (l.val % 2) + (8 * b + k)) % 8 = 4 * (l.val % 2) + k by omega]
  rfl

/-! ## A plane -/

/-- Entry `(k, n)` of a block's weights, as 16 bits. -/
def blkBits (d2 : Vec F S3584x256 .i8) (d3 : Vec F S8x512 .i32) (k : Fin 3584) (n : Fin 512) : BitVec 16 :=
  entry (fun s => d3 (ix2 s n)) (nib (d2 (ix2 k ⟨n.val / 2, by omega⟩)) (n.val % 2))

theorem plane_apply (d2 : Vec F S3584x256 .i8) (d3 : Vec F S8x512 .i32) (v11 v15 : IVec S8x128 32) (g : Fin 4) (col : ℕ)
    (hcol : col = 128 * (g.val / 2)) (hT : ∀ s l, v11 (ix2 s l) = d3 (ix2 s ⟨128 * g.val + l.val, by omega⟩))
    (h15 : ∀ (i : Fin 8) (l : Fin 128), v15 (ix2 i l) = BitVec.ofNat 32 (l.val / 2 + 64 * (g.val % 2)))
    (rr : Fin 1792) (l : Fin 128) :
    plane (fun r => stored0 k0_pay36 k0_pay37 v11 v15 (codesBlk d2 r col)) (fun r => stored1 k0_pay36 k0_pay37 v11 v15 (codesBlk d2 r col)) (ix3 0 rr l)
      = blkBits d2 d3 ⟨2 * rr.val + 1, by omega⟩ ⟨128 * g.val + l.val, by omega⟩ ++ blkBits d2 d3 ⟨2 * rr.val, by omega⟩ ⟨128 * g.val + l.val, by omega⟩ := by
  have hrr := rr.isLt
  have hl := l.isLt
  have hg := g.isLt
  have key (b : ℕ) (hb : b < 4) (k : ℕ) (hk : k < 3584) (e : k = 32 * (rr.val / 16) + 4 * (rr.val % 16 / 2) + b) (sh : BitVec 32) (hsh : sh = BitVec.ofNat 32 (8 * b)) :
      AtNib (byteAt (k0_pay4 k0_pay37 v15 (codesBlk d2 (rr.val / 16) col) (ix2 ⟨rr.val % 16 / 2, by omega⟩ l)) sh)
        (nib (d2 (ix2 ⟨k, hk⟩ ⟨(128 * g.val + l.val) / 2, by omega⟩)) ((128 * g.val + l.val) % 2)) := by
    subst hsh
    have := word_nib v15 (codesBlk d2 (rr.val / 16) col) ⟨rr.val % 16 / 2, by omega⟩ l (l.val / 2 + 64 * (g.val % 2)) (by omega) b hb (h15 _ _)
    have ek : codesBlk d2 (rr.val / 16) col (ix2 ⟨4 * (rr.val % 16 / 2) + b, by omega⟩ ⟨l.val / 2 + 64 * (g.val % 2), by omega⟩)
        = d2 (ix2 ⟨k, hk⟩ ⟨(128 * g.val + l.val) / 2, by omega⟩) := by
      refine congrArg d2 (funext fun c => ?_)
      match c with
      | ⟨0, _⟩ => exact Fin.ext (by show (32 * (rr.val / 16) + (4 * (rr.val % 16 / 2) + b)) % 3584 = k; omega)
      | ⟨1, _⟩ => exact Fin.ext (by show (col + (l.val / 2 + 64 * (g.val % 2))) % 256 = (128 * g.val + l.val) / 2; omega)
    rw [ek, show l.val % 2 = (128 * g.val + l.val) % 2 by omega] at this
    exact this
  have hc : colT v11 l = fun s => d3 (ix2 s ⟨128 * g.val + l.val, by omega⟩) := funext fun s => hT s l
  unfold plane
  show (if rr.val % 2 = 0 then stored0 k0_pay36 k0_pay37 v11 v15 (codesBlk d2 (rr.val / 16) col) (ix2 ⟨rr.val % 16 / 2, by omega⟩ l)
    else stored1 k0_pay36 k0_pay37 v11 v15 (codesBlk d2 (rr.val / 16) col) (ix2 ⟨rr.val % 16 / 2, by omega⟩ l)) = _
  by_cases h : rr.val % 2 = 0
  · rw [if_pos h]
    refine (stored0_apply _ _ _ _ _ (key 0 (by decide) (2 * rr.val) (by omega) (by omega) _ rfl) (key 1 (by decide) (2 * rr.val + 1) (by omega) (by omega) _ rfl)).trans ?_
    unfold blkBits
    rw [show (ix2 (n0 := 8) (n1 := 128) ⟨rr.val % 16 / 2, by omega⟩ l) 1 = l from rfl, hc]
  · rw [if_neg h]
    refine (stored1_apply _ _ _ _ _ (key 2 (by decide) (2 * rr.val) (by omega) (by omega) _ rfl) (key 3 (by decide) (2 * rr.val + 1) (by omega) (by omega) _ rfl)).trans ?_
    unfold blkBits
    rw [show (ix2 (n0 := 8) (n1 := 128) ⟨rr.val % 16 / 2, by omega⟩ l) 1 = l from rfl, hc]

end Cert.KernelIdeal.Hand
end
end
-- ==== Proof.KI.Block.lean ====
/-
  What the body leaves in its two result blocks, entry by entry over the extended reals: sums of products of the activations with
  the block's decoded weights and with its sparse weights.
-/
module

public import proofs.«01_k».proof.Proof.KI.Decode
public import Idealize.ShloMosaic.Lib.Pipeline.ValueKit
public import Idealize.ShloMosaic.PureOps.Ideal.Laws

@[expose] public section

set_option maxRecDepth 16000

noncomputable section

namespace Cert.KernelIdeal.Hand

open Cert.KernelIdeal Cert.KernelIdeal.Gen Cert.Spec
open Idealize.ShloMosaic

variable {F : FTy → Type} [FloatOps F]

/-! ## Loads -/

theorem ld_whole (d : Vec F S768x3584 .bf16) :
    ld d (Rect.unit (s := S768x3584) ![0, 0] S768x3584.size inb_S768x3584_S768x3584_0_0).toLoadRect = d := by
  funext y
  refine congrArg d (funext fun a => Fin.ext ?_)
  match a with
  | ⟨0, _⟩ => show 0 + 1 * (y 0).val = (y 0).val; omega
  | ⟨1, _⟩ => show 0 + 1 * (y 1).val = (y 1).val; omega

theorem ld_cols (d3 : Vec F S8x512 .i32) (o : ℕ) (ho : o + 128 ≤ 512) (inb) (s : Fin 8) (l : Fin 128) :
    ld d3 (Rect.unit (s := S8x512) ![0, o] S8x128.size inb).toLoadRect (ix2 s l) = d3 (ix2 s ⟨o + l.val, by omega⟩) := by
  refine congrArg d3 (funext fun a => Fin.ext ?_)
  match a with
  | ⟨0, _⟩ => show 0 + 1 * s.val = s.val; omega
  | ⟨1, _⟩ => show o + 1 * l.val = o + l.val; omega

/-! ## The four planes -/

theorem lanes_even (i : Fin 8) (l : Fin 128) : k0_pay39 (ix2 i l) = BitVec.ofNat 32 (l.val / 2 + 64 * 0) := by
  unfold k0_pay39
  show IntOp.addi (IntOp.shrsi .vector (iota .tc S8x128 32 [1] iota_S8x128_d1_w32 (ix2 i l)) 1#32) 0#32 = _
  rw [iota_single_apply]
  exact (show ∀ l < 128, IntOp.addi (IntOp.shrsi .vector (BitVec.ofNat 32 l) 1#32) 0#32 = BitVec.ofNat 32 (l / 2 + 64 * 0) by decide +kernel) l.val l.isLt

theorem lanes_odd (i : Fin 8) (l : Fin 128) : k0_pay43 (ix2 i l) = BitVec.ofNat 32 (l.val / 2 + 64 * 1) := by
  unfold k0_pay43
  show IntOp.addi (IntOp.shrsi .vector (iota .tc S8x128 32 [1] iota_S8x128_d1_w32 (ix2 i l)) 1#32) 64#32 = _
  rw [iota_single_apply]
  exact (show ∀ l < 128, IntOp.addi (IntOp.shrsi .vector (BitVec.ofNat 32 l) 1#32) 64#32 = BitVec.ofNat 32 (l / 2 + 64 * 1) by decide +kernel) l.val l.isLt

/-- The four planes of the scratch by number. -/
def planes (d2 : Vec F S3584x256 .i8) (d3 : Vec F S8x512 .i32) : Fin 4 → IVec S1x1792x128 32 :=
  ![plane0 d2 d3, plane1 d2 d3, plane2 d2 d3, plane3 d2 d3]

theorem planes_apply (d2 : Vec F S3584x256 .i8) (d3 : Vec F S8x512 .i32) (g : Fin 4) (rr : Fin 1792) (l : Fin 128) :
    planes d2 d3 g (ix3 0 rr l)
      = blkBits d2 d3 ⟨2 * rr.val + 1, by omega⟩ ⟨128 * g.val + l.val, by omega⟩ ++ blkBits d2 d3 ⟨2 * rr.val, by omega⟩ ⟨128 * g.val + l.val, by omega⟩ := by
  match g with
  | ⟨0, _⟩ =>
    refine plane_apply d2 d3 _ _ 0 0 rfl (fun s l => ?_) lanes_even rr l
    unfold k0_pay38
    refine (congrFun (shapeCast_self _ _) _).trans ?_
    exact ld_cols d3 0 (by decide) _ s l
  | ⟨1, _⟩ =>
    refine plane_apply d2 d3 _ _ 1 0 rfl (fun s l => ?_) lanes_odd rr l
    unfold k0_pay42
    refine (congrFun (shapeCast_self _ _) _).trans ?_
    exact ld_cols d3 128 (by decide) _ s l
  | ⟨2, _⟩ =>
    refine plane_apply d2 d3 _ _ 2 128 rfl (fun s l => ?_) lanes_even rr l
    unfold k0_pay46
    refine (congrFun (shapeCast_self _ _) _).trans ?_
    exact ld_cols d3 256 (by decide) _ s l
  | ⟨3, _⟩ =>
    refine plane_apply d2 d3 _ _ 3 128 rfl (fun s l => ?_) lanes_odd rr l
    unfold k0_pay50
    refine (congrFun (shapeCast_self _ _) _).trans ?_
    exact ld_cols d3 384 (by decide) _ s l

theorem low_half (a b : BitVec 16) : (a ++ b).extractLsb' 0 16 = b := by
  apply BitVec.eq_of_getLsbD_eq
  intro i hi
  rw [BitVec.getLsbD_extractLsb', BitVec.getLsbD_append]
  simp [hi]

theorem high_half (a b : BitVec 16) : (a ++ b).extractLsb' 16 16 = a := by
  apply BitVec.eq_of_getLsbD_eq
  intro i hi
  rw [BitVec.getLsbD_extractLsb', BitVec.getLsbD_append]
  simp [hi]

/-- A plane's words read as 16-bit rows. -/
theorem rows_apply (p : IVec S1x1792x128 32) (w : Fin 3584 → Fin 128 → BitVec 16)
    (hp : ∀ (rr : Fin 1792) (l : Fin 128), p (ix3 0 rr l) = w ⟨2 * rr.val + 1, by omega⟩ l ++ w ⟨2 * rr.val, by omega⟩ l) (k : Fin 3584) (l : Fin 128) :
    bitcast S3584x128 16 (shapeCast S1792x128 p shapeCasts_S1x1792x128_S1792x128) bitcasts_S1792x128_w32_S3584x128_w16 (ix2 k l) = w k l := by
  have hk := k.isLt
  rw [bitcast_32_16]
  have hr : S3584x128.row (ix2 k l) = k.val := rfl
  have e : ∀ hp', shapeCast S1792x128 p shapeCasts_S1x1792x128_S1792x128 (bitcasts_S1792x128_w32_S3584x128_w16.srcIdx (ix2 k l) (S3584x128.row (ix2 k l) / 2) hp')
      = p (ix3 0 ⟨k.val / 2, by omega⟩ l) := fun hp' => by
    refine shapeCast_apply p _ _ _ ?_
    rewrite [Shape.rowMajor_val_three, Shape.rowMajor_val_two]
    have h0 : (bitcasts_S1792x128_w32_S3584x128_w16.srcIdx (ix2 k l) (S3584x128.row (ix2 k l) / 2) hp' 0).val = k.val / 2 :=
      Shape.Bitcasts.srcIdx_row _ _ _ hp' ⟨0, by decide⟩ rfl
    have h1 : (bitcasts_S1792x128_w32_S3584x128_w16.srcIdx (ix2 k l) (S3584x128.row (ix2 k l) / 2) hp' 1).val = l.val :=
      Shape.Bitcasts.srcIdx_other _ _ _ hp' ⟨1, by decide⟩ (by show ¬ 1 + 2 = 2; omega)
    rw [h0, h1]
    show (0 * 1792 + k.val / 2) * 128 + l.val = k.val / 2 * 128 + l.val
    omega
  rw [e, hp, hr]
  rcases Nat.mod_two_eq_zero_or_one k.val with h | h
  · rw [h]
    refine (low_half _ _).trans ?_
    congr 1; exact Fin.ext (by show 2 * (k.val / 2) = k.val; omega)
  · rw [h]
    refine (high_half _ _).trans ?_
    congr 1; exact Fin.ext (by show 2 * (k.val / 2) + 1 = k.val; omega)

/-! ## The dense product of a block -/

theorem lhs_dense_0 (i : S768x512.Idx) (q : dot_S768x3584_S3584x512_S768x512_1_0_0_1_n_n.contr.Idx) :
    (dot_S768x3584_S3584x512_S768x512_1_0_0_1_n_n.lhsIdx i q 0).val = (i 0).val := by
  unfold DotDims.lhsIdx
  rw [dif_neg (show ¬(0 : Fin S768x3584.rank) ∈ dot_S768x3584_S3584x512_S768x512_1_0_0_1_n_n.lhsBatch by decide), dif_pos (show (0 : Fin S768x3584.rank) ∈ dot_S768x3584_S3584x512_S768x512_1_0_0_1_n_n.lhsNonContracting by decide)]
  rfl

theorem rhs_dense_1 (i : S768x512.Idx) (q : dot_S768x3584_S3584x512_S768x512_1_0_0_1_n_n.contr.Idx) :
    (dot_S768x3584_S3584x512_S768x512_1_0_0_1_n_n.rhsIdx i q 1).val = (i 1).val := by
  unfold DotDims.rhsIdx
  rw [dif_neg (show ¬(1 : Fin S3584x512.rank) ∈ dot_S768x3584_S3584x512_S768x512_1_0_0_1_n_n.rhsBatch by decide), dif_pos (show (1 : Fin S3584x512.rank) ∈ dot_S768x3584_S3584x512_S768x512_1_0_0_1_n_n.rhsNonContracting by decide)]
  rfl

theorem dense_matmul (x : FVec Ideal S768x3584 .bf16) (w : FVec Ideal S3584x512 .bf16) (a : Fin 768) (n : Fin 512) :
    matmul dot_S768x3584_S3584x512_S768x512_1_0_0_1_n_n none x w (constant (F := Ideal) S768x512 .f32 0x00000000#32) (ix2 a n)
      = ∑ k : Fin 3584, (x (ix2 a k) : EReal) * w (ix2 k n) := by
  refine (Ideal.matmul_constant_zero_apply _ none x w _).trans ?_
  rw [← Equiv.sum_comp (ValueIdx.contrEquiv1 dot_S768x3584_S3584x512_S768x512_1_0_0_1_n_n 3584 rfl rfl).symm]
  refine Finset.sum_congr rfl fun k _ => ?_
  have hk := ValueIdx.contrEquiv1_symm_val dot_S768x3584_S3584x512_S768x512_1_0_0_1_n_n 3584 rfl rfl k
  have el : dot_S768x3584_S3584x512_S768x512_1_0_0_1_n_n.lhsIdx (ix2 a n) ((ValueIdx.contrEquiv1 dot_S768x3584_S3584x512_S768x512_1_0_0_1_n_n 3584 rfl rfl).symm k) = ix2 a k := funext fun b => Fin.ext (by
    match b with
    | ⟨0, _⟩ => exact lhs_dense_0 _ _
    | ⟨1, _⟩ => exact (DotDims.lhsIdx_val_of_single dot_S768x3584_S3584x512_S768x512_1_0_0_1_n_n rfl _ _).trans hk)
  have er : dot_S768x3584_S3584x512_S768x512_1_0_0_1_n_n.rhsIdx (ix2 a n) ((ValueIdx.contrEquiv1 dot_S768x3584_S3584x512_S768x512_1_0_0_1_n_n 3584 rfl rfl).symm k) = ix2 k n := funext fun b => Fin.ext (by
    match b with
    | ⟨0, _⟩ => exact (DotDims.rhsIdx_val_of_single dot_S768x3584_S3584x512_S768x512_1_0_0_1_n_n rfl _ _).trans hk
    | ⟨1, _⟩ => exact rhs_dense_1 _ _)
  rw [el, er]

theorem weight_apply (d2 : Vec F S3584x256 .i8) (d3 : Vec F S8x512 .i32) (g : Fin 4) (k : Fin 3584) (l : Fin 128) :
    bitcastToFloat (F := F) .bf16 (bitcast S3584x128 16 (shapeCast S1792x128 (planes d2 d3 g) shapeCasts_S1x1792x128_S1792x128) bitcasts_S1792x128_w32_S3584x128_w16) (ix2 k l)
      = FloatOps.ofBits .bf16 (blkBits d2 d3 k ⟨128 * g.val + l.val, by omega⟩) :=
  congrArg (FloatOps.ofBits .bf16) (rows_apply (planes d2 d3 g) (fun k l => blkBits d2 d3 k ⟨128 * g.val + l.val, by omega⟩) (fun rr l => planes_apply d2 d3 g rr l) k l)

theorem concat4 (f : Fin 4 → FVec F S3584x128 .bf16) (k : Fin 3584) (n : Fin 512) :
    concatenate S3584x512 1 [⟨S3584x128, f 0⟩, ⟨S3584x128, f 1⟩, ⟨S3584x128, f 2⟩, ⟨S3584x128, f 3⟩] concatenates_S3584x128_S3584x128_S3584x128_S3584x128_S3584x512_d1 (ix2 k n)
      = f ⟨n.val / 128, by omega⟩ (ix2 k ⟨n.val % 128, Nat.mod_lt _ (by decide)⟩) :=
  concatenate_ofFn_apply (t := S3584x512) (s₁ := S3584x128) 1 f concatenates_S3584x128_S3584x128_S3584x128_S3584x128_S3584x512_d1 rfl 128 rfl (ix2 k n)
    ⟨n.val / 128, by omega⟩ rfl (ix2 k ⟨n.val % 128, Nat.mod_lt _ (by decide)⟩) rfl fun b hb => by
      match b with
      | ⟨0, _⟩ => rfl
      | ⟨1, _⟩ => exact absurd rfl hb

theorem dense_apply (d1 : Vec Ideal S768x3584 .bf16) (d2 : Vec Ideal S3584x256 .i8) (d3 : Vec Ideal S8x512 .i32) (a : Fin 768) (n : Fin 512) :
    k0_pay55 (F := Ideal) d1 (plane0 d2 d3) (plane1 d2 d3) (plane2 d2 d3) (plane3 d2 d3) (ix2 a n)
      = ∑ k : Fin 3584, (d1 (ix2 a k) : EReal) * FloatOps.ofBits (F := Ideal) .bf16 (blkBits d2 d3 k n) := by
  unfold k0_pay55
  refine (dense_matmul _ _ a n).trans ?_
  refine Finset.sum_congr rfl fun k _ => ?_
  have hn := n.isLt
  have ex : k0_pay54 (F := Ideal) d1 = d1 := shapeCast_self _ _
  refine congrArg₂ (fun u v : EReal => u * v) (congrFun ex _) ?_
  refine (concat4 (fun g => bitcastToFloat (F := Ideal) .bf16 (bitcast S3584x128 16 (shapeCast S1792x128 (planes d2 d3 g) shapeCasts_S1x1792x128_S1792x128) bitcasts_S1792x128_w32_S3584x128_w16)) k n).trans ?_
  refine (weight_apply d2 d3 _ k _).trans ?_
  have e : (⟨128 * (n.val / 128) + n.val % 128, by omega⟩ : Fin 512) = n := Fin.ext (by show 128 * (n.val / 128) + n.val % 128 = n.val; omega)
  exact congrArg (fun n => FloatOps.ofBits (F := Ideal) .bf16 (blkBits d2 d3 k n)) e

/-! ## The sparse product of a block -/

/-- The sparse weight `(k, n)` of a block: a half of one of its words. -/
def blkSparse (d4 : Vec F S32x28x8x128 .i32) (k : Fin 3584) (n : Fin 512) : BitVec 16 :=
  (d4 (ix4 ⟨n.val / 16, by omega⟩ ⟨k.val / 128, by omega⟩ ⟨n.val / 2 % 8, by omega⟩ ⟨k.val % 128, by omega⟩)).extractLsb' (16 * (n.val % 2)) 16

/-- The 128 columns of the sparse weights that one slice of the block's words holds. -/
def slab (d4 : Vec F S32x28x8x128 .i32) (q : Fin 28) : FVec F S512x128 .bf16 := fun y =>
  FloatOps.ofBits .bf16 (blkSparse d4 ⟨128 * q.val + (y 1).val, by have : (y 1).val < 128 := (y 1).isLt; omega⟩ (y 0))

theorem words_apply (v : IVec S32x1x8x128 32) (j : S256x128.Idx) (a : Fin 32) (b : Fin 8) (l : Fin 128) (h0 : (j 0).val = a.val * 8 + b.val) (h1 : (j 1).val = l.val) :
    shapeCast S256x128 (shapeCast S32x8x128 v shapeCasts_S32x1x8x128_S32x8x128) shapeCasts_S32x8x128_S256x128 j = v (ix4 a 0 b l) := by
  have e1 : shapeCast S256x128 (shapeCast S32x8x128 v shapeCasts_S32x1x8x128_S32x8x128) shapeCasts_S32x8x128_S256x128 j
      = shapeCast S32x8x128 v shapeCasts_S32x1x8x128_S32x8x128 (ix3 a b l) := by
    refine shapeCast_apply _ _ _ _ ?_
    rewrite [Shape.rowMajor_val_three, Shape.rowMajor_val_two, h0, h1]
    rfl
  rw [e1]
  refine shapeCast_apply _ _ _ _ ?_
  rewrite [Shape.rowMajor_val_four, Shape.rowMajor_val_three]
  show ((a.val * 1 + 0) * 8 + b.val) * 128 + l.val = (a.val * 8 + b.val) * 128 + l.val
  omega

theorem slab_eq (d4 : Vec F S32x28x8x128 .i32) (q : Fin 28) (inb) :
    k0_pay56 (ld d4 (Rect.unit (s := S32x28x8x128) ![0, q.val, 0, 0] S32x1x8x128.size inb).toLoadRect) = slab d4 q := by
  funext y
  have h0 : (y 0).val < 512 := (y 0).isLt
  have h1 : (y 1).val < 128 := (y 1).isLt
  unfold k0_pay56 slab
  refine congrArg (FloatOps.ofBits .bf16) ?_
  rw [bitcast_32_16]
  have hr : S512x128.row y = (y 0).val := rfl
  unfold blkSparse
  refine congrArg₂ (fun u (v : BitVec 32) => v.extractLsb' (16 * u) 16) (by rw [hr]) ?_
  have e : ∀ hp', shapeCast S256x128 (shapeCast S32x8x128 (ld d4 (Rect.unit (s := S32x28x8x128) ![0, q.val, 0, 0] S32x1x8x128.size inb).toLoadRect) shapeCasts_S32x1x8x128_S32x8x128)
      shapeCasts_S32x8x128_S256x128 (bitcasts_S256x128_w32_S512x128_w16.srcIdx y (S512x128.row y / 2) hp')
      = ld d4 (Rect.unit (s := S32x28x8x128) ![0, q.val, 0, 0] S32x1x8x128.size inb).toLoadRect (ix4 ⟨(y 0).val / 16, by omega⟩ 0 ⟨(y 0).val / 2 % 8, by omega⟩ ⟨(y 1).val, h1⟩) := fun hp' => by
    refine words_apply _ _ _ _ _ ?_ ?_
    · rw [show (bitcasts_S256x128_w32_S512x128_w16.srcIdx y (S512x128.row y / 2) hp' 0).val = (y 0).val / 2 from
        Shape.Bitcasts.srcIdx_row _ _ _ hp' ⟨0, by decide⟩ rfl]
      show (y 0).val / 2 = (y 0).val / 16 * 8 + (y 0).val / 2 % 8
      omega
    · exact Shape.Bitcasts.srcIdx_other _ _ _ hp' ⟨1, by decide⟩ (by show ¬ 1 + 2 = 2; omega)
  refine (e _).trans ?_
  refine congrArg d4 (funext fun a => Fin.ext ?_)
  match a with
    | ⟨0, _⟩ => show 0 + 1 * ((y 0).val / 16) = (y 0).val / 16; omega
    | ⟨1, _⟩ => show q.val + 1 * 0 = (128 * q.val + (y 1).val) / 128; omega
    | ⟨2, _⟩ => show 0 + 1 * ((y 0).val / 2 % 8) = (y 0).val / 2 % 8; omega
    | ⟨3, _⟩ => show 0 + 1 * (y 1).val = (128 * q.val + (y 1).val) % 128; omega

theorem lhs_sparse_0 (i : S768x512.Idx) (q : dot_S768x3584_S512x3584_S768x512_1_1_0_0_n_n.contr.Idx) :
    (dot_S768x3584_S512x3584_S768x512_1_1_0_0_n_n.lhsIdx i q 0).val = (i 0).val := by
  unfold DotDims.lhsIdx
  rw [dif_neg (show ¬(0 : Fin S768x3584.rank) ∈ dot_S768x3584_S512x3584_S768x512_1_1_0_0_n_n.lhsBatch by decide), dif_pos (show (0 : Fin S768x3584.rank) ∈ dot_S768x3584_S512x3584_S768x512_1_1_0_0_n_n.lhsNonContracting by decide)]
  rfl

theorem rhs_sparse_0 (i : S768x512.Idx) (q : dot_S768x3584_S512x3584_S768x512_1_1_0_0_n_n.contr.Idx) :
    (dot_S768x3584_S512x3584_S768x512_1_1_0_0_n_n.rhsIdx i q 0).val = (i 1).val := by
  unfold DotDims.rhsIdx
  rw [dif_neg (show ¬(0 : Fin S512x3584.rank) ∈ dot_S768x3584_S512x3584_S768x512_1_1_0_0_n_n.rhsBatch by decide), dif_pos (show (0 : Fin S512x3584.rank) ∈ dot_S768x3584_S512x3584_S768x512_1_1_0_0_n_n.rhsNonContracting by decide)]
  rfl

theorem sparse_matmul (x : FVec Ideal S768x3584 .bf16) (w : FVec Ideal S512x3584 .bf16) (a : Fin 768) (n : Fin 512) :
    matmul dot_S768x3584_S512x3584_S768x512_1_1_0_0_n_n none x w (constant (F := Ideal) S768x512 .f32 0x00000000#32) (ix2 a n)
      = ∑ k : Fin 3584, (x (ix2 a k) : EReal) * w (ix2 n k) := by
  refine (Ideal.matmul_constant_zero_apply _ none x w _).trans ?_
  rw [← Equiv.sum_comp (ValueIdx.contrEquiv1 dot_S768x3584_S512x3584_S768x512_1_1_0_0_n_n 3584 rfl rfl).symm]
  refine Finset.sum_congr rfl fun k _ => ?_
  have hk := ValueIdx.contrEquiv1_symm_val dot_S768x3584_S512x3584_S768x512_1_1_0_0_n_n 3584 rfl rfl k
  have el : dot_S768x3584_S512x3584_S768x512_1_1_0_0_n_n.lhsIdx (ix2 a n) ((ValueIdx.contrEquiv1 dot_S768x3584_S512x3584_S768x512_1_1_0_0_n_n 3584 rfl rfl).symm k) = ix2 a k := funext fun b => Fin.ext (by
    match b with
    | ⟨0, _⟩ => exact lhs_sparse_0 _ _
    | ⟨1, _⟩ => exact (DotDims.lhsIdx_val_of_single dot_S768x3584_S512x3584_S768x512_1_1_0_0_n_n rfl _ _).trans hk)
  have er : dot_S768x3584_S512x3584_S768x512_1_1_0_0_n_n.rhsIdx (ix2 a n) ((ValueIdx.contrEquiv1 dot_S768x3584_S512x3584_S768x512_1_1_0_0_n_n 3584 rfl rfl).symm k) = ix2 n k := funext fun b => Fin.ext (by
    match b with
    | ⟨0, _⟩ => exact rhs_sparse_0 _ _
    | ⟨1, _⟩ => exact (DotDims.rhsIdx_val_of_single dot_S768x3584_S512x3584_S768x512_1_1_0_0_n_n rfl _ _).trans hk)
  rw [el, er]

theorem concat28 (f : Fin 28 → FVec F S512x128 .bf16) (k : Fin 3584) (n : Fin 512) :
    concatenate S512x3584 1 [⟨S512x128, f 0⟩, ⟨S512x128, f 1⟩, ⟨S512x128, f 2⟩, ⟨S512x128, f 3⟩, ⟨S512x128, f 4⟩, ⟨S512x128, f 5⟩, ⟨S512x128, f 6⟩, ⟨S512x128, f 7⟩, ⟨S512x128, f 8⟩, ⟨S512x128, f 9⟩, ⟨S512x128, f 10⟩, ⟨S512x128, f 11⟩, ⟨S512x128, f 12⟩, ⟨S512x128, f 13⟩, ⟨S512x128, f 14⟩, ⟨S512x128, f 15⟩, ⟨S512x128, f 16⟩, ⟨S512x128, f 17⟩, ⟨S512x128, f 18⟩, ⟨S512x128, f 19⟩, ⟨S512x128, f 20⟩, ⟨S512x128, f 21⟩, ⟨S512x128, f 22⟩, ⟨S512x128, f 23⟩, ⟨S512x128, f 24⟩, ⟨S512x128, f 25⟩, ⟨S512x128, f 26⟩, ⟨S512x128, f 27⟩] concatenates_S512x128_S512x128_S512x128_S512x128_S512x128_S512x128_S512x128_S512x128_S512x128_S512x128_S512x128_S512x128_S512x128_S512x128_S512x128_S512x128_S512x128_S512x128_S512x128_S512x128_S512x128_S512x128_S512x128_S512x128_S512x128_S512x128_S512x128_S512x128_S512x3584_d1 (ix2 n k)
      = f ⟨k.val / 128, by omega⟩ (ix2 n ⟨k.val % 128, Nat.mod_lt _ (by decide)⟩) :=
  concatenate_ofFn_apply (t := S512x3584) (s₁ := S512x128) 1 f concatenates_S512x128_S512x128_S512x128_S512x128_S512x128_S512x128_S512x128_S512x128_S512x128_S512x128_S512x128_S512x128_S512x128_S512x128_S512x128_S512x128_S512x128_S512x128_S512x128_S512x128_S512x128_S512x128_S512x128_S512x128_S512x128_S512x128_S512x128_S512x128_S512x3584_d1 rfl 128 rfl (ix2 n k)
    ⟨k.val / 128, by omega⟩ rfl (ix2 n ⟨k.val % 128, Nat.mod_lt _ (by decide)⟩) rfl fun b hb => by
      match b with
      | ⟨0, _⟩ => rfl
      | ⟨1, _⟩ => exact absurd rfl hb

theorem inb_slab (q : Fin 28) : ∀ a, (![0, q.val, 0, 0] : Fin 4 → Nat) a + S32x1x8x128.size a ≤ S32x28x8x128.size a := by
  revert q; decide

/-- A slice of the block's words as 128 columns of weights. -/
def piece (d4 : Vec F S32x28x8x128 .i32) (q : Fin 28) : FVec F S512x128 .bf16 :=
  k0_pay56 (ld d4 (Rect.unit (s := S32x28x8x128) ![0, q.val, 0, 0] S32x1x8x128.size (inb_slab q)).toLoadRect)

theorem outYs_eq (d1 : Vec F S768x3584 .bf16) (d4 : Vec F S32x28x8x128 .i32) :
    outYs d1 d4 = k0_pay2 (k0_pay54 (ld d1 (Rect.unit (s := S768x3584) ![0, 0] S768x3584.size inb_S768x3584_S768x3584_0_0).toLoadRect))
      (concatenate S512x3584 1 [⟨S512x128, piece d4 0⟩, ⟨S512x128, piece d4 1⟩, ⟨S512x128, piece d4 2⟩, ⟨S512x128, piece d4 3⟩, ⟨S512x128, piece d4 4⟩, ⟨S512x128, piece d4 5⟩, ⟨S512x128, piece d4 6⟩, ⟨S512x128, piece d4 7⟩, ⟨S512x128, piece d4 8⟩, ⟨S512x128, piece d4 9⟩, ⟨S512x128, piece d4 10⟩, ⟨S512x128, piece d4 11⟩, ⟨S512x128, piece d4 12⟩, ⟨S512x128, piece d4 13⟩, ⟨S512x128, piece d4 14⟩, ⟨S512x128, piece d4 15⟩, ⟨S512x128, piece d4 16⟩, ⟨S512x128, piece d4 17⟩, ⟨S512x128, piece d4 18⟩, ⟨S512x128, piece d4 19⟩, ⟨S512x128, piece d4 20⟩, ⟨S512x128, piece d4 21⟩, ⟨S512x128, piece d4 22⟩, ⟨S512x128, piece d4 23⟩, ⟨S512x128, piece d4 24⟩, ⟨S512x128, piece d4 25⟩, ⟨S512x128, piece d4 26⟩, ⟨S512x128, piece d4 27⟩] concatenates_S512x128_S512x128_S512x128_S512x128_S512x128_S512x128_S512x128_S512x128_S512x128_S512x128_S512x128_S512x128_S512x128_S512x128_S512x128_S512x128_S512x128_S512x128_S512x128_S512x128_S512x128_S512x128_S512x128_S512x128_S512x128_S512x128_S512x128_S512x128_S512x3584_d1) := rfl

theorem outYs_apply (d1 : Vec Ideal S768x3584 .bf16) (d4 : Vec Ideal S32x28x8x128 .i32) (a : Fin 768) (n : Fin 512) :
    outYs (F := Ideal) d1 d4 (ix2 a n) = ∑ k : Fin 3584, (d1 (ix2 a k) : EReal) * FloatOps.ofBits (F := Ideal) .bf16 (blkSparse d4 k n) := by
  rw [outYs_eq, ld_whole]
  unfold k0_pay2
  refine (sparse_matmul _ _ a n).trans ?_
  refine Finset.sum_congr rfl fun k _ => ?_
  have ex : k0_pay54 (F := Ideal) d1 = d1 := shapeCast_self _ _
  refine congrArg₂ (fun u v : EReal => u * v) (congrFun ex _) ?_
  refine (concat28 (piece d4) k n).trans ?_
  unfold piece
  rw [slab_eq]
  show FloatOps.ofBits (F := Ideal) .bf16 (blkSparse d4 ⟨128 * (k.val / 128) + k.val % 128, _⟩ n) = _
  congr 2
  exact Fin.ext (by show 128 * (k.val / 128) + k.val % 128 = k.val; omega)

theorem outY_apply (d1 : Vec Ideal S768x3584 .bf16) (d2 : Vec Ideal S3584x256 .i8) (d3 : Vec Ideal S8x512 .i32) (d4 : Vec Ideal S32x28x8x128 .i32) (a : Fin 768) (n : Fin 512) :
    outY (F := Ideal) d1 d2 d3 d4 (ix2 a n)
      = (∑ k : Fin 3584, (d1 (ix2 a k) : EReal) * FloatOps.ofBits (F := Ideal) .bf16 (blkBits d2 d3 k n))
        + ∑ k : Fin 3584, (d1 (ix2 a k) : EReal) * FloatOps.ofBits (F := Ideal) .bf16 (blkSparse d4 k n) := by
  unfold outY k0_pay3
  rw [ld_whole]
  have e : shapeCast S768x512 (outYs (F := Ideal) d1 d4) shapeCasts_S768x512_S768x512 = outYs (F := Ideal) d1 d4 := shapeCast_self _ _
  show (k0_pay55 (F := Ideal) d1 (plane0 d2 d3) (plane1 d2 d3) (plane2 d2 d3) (plane3 d2 d3) (ix2 a n) : EReal)
    + shapeCast S768x512 (outYs (F := Ideal) d1 d4) shapeCasts_S768x512_S768x512 (ix2 a n) = _
  rw [dense_apply, e, outYs_apply]

end Cert.KernelIdeal.Hand
end
-- ==== Proof.KI.Value.lean ====
/-
  The two results of the kernel, over the extended reals, as sums of products of its arguments.
-/
module

public import proofs.«01_k».proof.Proof.KI.Block
public import proofs.«01_k».proof.Proof.KI.Launch
public import Idealize.ShloMosaic.Lib.Pipeline.ValueKit

@[expose] public section

set_option maxRecDepth 16384

noncomputable section

namespace Cert.KernelIdeal.Hand

open Cert.KernelIdeal Cert.KernelIdeal.Gen Cert.Spec
open Idealize.ShloMosaic Idealize.ShloMosaic.TcCoe Idealize.ShloMosaic.Tactic
open Idealize.SL.Sem
open Idealize.ShloMosaic.Pipeline (Dat Cfg Window)

section
variable {F : FTy → Type} [FloatOps F]
variable (m : (ℓ : Loc nD τ sig) → Buf (Elt F) ℓ)

/-! ## The arrays the launch reads, from the arguments -/

theorem V_x (c : Dev nD) : (V m c main_v8 : Vec F S768x3584 .bf16) = shapeCast S768x3584 (m ((c : Thread nD τ).loc main_arg0) : Vec F S3x256x3584 .bf16) shapeCasts_S3x256x3584_S768x3584 := by
  show StableHlo.after hostOps0 (fun b => m (c, b)) (Proc.devRef .tc main_v8) = _
  unfold hostOps0
  after_results
  rfl

theorem V_words (c : Dev nD) : (V m c main_v0 : Vec F S1184x28x8x128 .i32) = shapeCast S1184x28x8x128 (m ((c : Thread nD τ).loc main_arg3) : Vec F S33947648 .i32) shapeCasts_S33947648_S1184x28x8x128 := by
  show StableHlo.after hostOps0 (fun b => m (c, b)) (Proc.devRef .tc main_v0) = _
  unfold hostOps0
  after_results
  rfl

/-- The lookup table from the lookup rows: entries `n` and `n + 8` of a row in one word. -/
def table (lut : Vec F S18944x16 .i16) : Vec F S8x18944 .i32 :=
  ori (extractStridedSlice S8x18944 ![0, 0] (transpose S16x18944 [1, 0] (extui 32 lut natLt_16_32) transposes_S18944x16_S16x18944_1_0) slices_S16x18944_S8x18944_0_0)
    (Host.shli (extractStridedSlice S8x18944 ![8, 0] (transpose S16x18944 [1, 0] (extui 32 lut natLt_16_32) transposes_S18944x16_S16x18944_1_0) slices_S16x18944_S8x18944_8_0)
      (broadcastInDim S8x18944 ![] bcast_S_S8x18944 (constantI S_ 32 16#32)))

theorem V_table (c : Dev nD) : (V m c main_v7 : Vec F S8x18944 .i32) = table (m ((c : Thread nD τ).loc main_arg2)) := by
  show StableHlo.after hostOps0 (fun b => m (c, b)) (Proc.devRef .tc main_v7) = _
  unfold hostOps0
  after_results
  rfl

theorem lo16 (a b : BitVec 16) : (a.setWidth 32 ||| b.setWidth 32 <<< 16).extractLsb' 0 16 = a := by
  apply BitVec.eq_of_getLsbD_eq
  intro i hi
  simp [BitVec.getLsbD_extractLsb', hi]
  omega

theorem hi16 (a b : BitVec 16) : (a.setWidth 32 ||| b.setWidth 32 <<< 16).extractLsb' 16 16 = b := by
  apply BitVec.eq_of_getLsbD_eq
  intro i hi
  rw [BitVec.getLsbD_extractLsb', BitVec.getLsbD_or, BitVec.getLsbD_setWidth, BitVec.getLsbD_shiftLeft, BitVec.getLsbD_setWidth]
  have h1 : a.getLsbD (16 + i) = false := BitVec.getLsbD_of_ge _ _ (by omega)
  have h2 : 16 + i < 32 := by omega
  have h3 : i < 32 := by omega
  simp [h1, hi, h2, h3]

theorem shl16 (u : BitVec 32) : IntOp.shli .host u 16#32 = u <<< 16 := if_pos (by decide)

/-- An entry of a column of the table is the lookup row's. -/
theorem entry_table (lut : Vec F S18944x16 .i16) (n : Fin 18944) (q : Fin 16) :
    entry (fun s => table lut (ix2 s n)) q = lut (ix2 n q) := by
  have hq := q.isLt
  have half (o : ℕ) (ho : o + 8 ≤ 16) (h : S16x18944.Slices ![o, 0] S8x18944) (s : Fin 8) :
      extractStridedSlice S8x18944 ![o, 0] (transpose S16x18944 [1, 0] (extui 32 lut natLt_16_32) transposes_S18944x16_S16x18944_1_0) h (ix2 s n)
        = (lut (ix2 n ⟨o + s.val, by omega⟩)).setWidth 32 := by
    refine (extractStridedSlice_apply _ _ _ _ (ix2 ⟨o + s.val, by omega⟩ n) (fun a => ?_)).trans ?_
    · match a with
      | ⟨0, _⟩ => rfl
      | ⟨1, _⟩ => show n.val = 0 + n.val; omega
    refine (transpose_apply _ _ _ _ (ix2 n ⟨o + s.val, by omega⟩) (fun b => ?_)).trans rfl
    match b with
    | ⟨0, _⟩ => rfl
    | ⟨1, _⟩ => rfl
  have hw (s : Fin 8) : table lut (ix2 s n) = (lut (ix2 n ⟨0 + s.val, by omega⟩)).setWidth 32 ||| ((lut (ix2 n ⟨8 + s.val, by omega⟩)).setWidth 32 <<< 16) := by
    unfold table
    refine congrArg₂ (fun u v : BitVec 32 => u ||| v) (half 0 (by decide) _ s) ?_
    refine (shl16 _).trans ?_
    exact congrArg (fun u : BitVec 32 => u <<< 16) (half 8 (by decide) _ s)
  unfold entry
  show (table lut (ix2 ⟨q.val % 8, _⟩ n)).extractLsb' _ 16 = _
  rw [hw]
  rcases Nat.lt_or_ge q.val 8 with h | h
  · have e : (⟨0 + q.val % 8, by omega⟩ : Fin 16) = q := Fin.ext (by show 0 + q.val % 8 = q.val; omega)
    rw [show q.val / 8 = 0 by omega]
    refine (lo16 _ _).trans ?_
    exact congrArg (fun z => lut (ix2 n z)) e
  · have e : (⟨8 + q.val % 8, by omega⟩ : Fin 16) = q := Fin.ext (by show 8 + q.val % 8 = q.val; omega)
    rw [show q.val / 8 = 1 by omega]
    refine (hi16 _ _).trans ?_
    exact congrArg (fun z => lut (ix2 n z)) e

/-! ## The blocks of a point, from the arguments -/

theorem idx : ∀ t : Fin cfg0.N, win0_0.index t = ![0, 0] ∧ win0_1.index t = ![0, t.val] ∧ win0_2.index t = ![0, t.val] ∧ win0_3.index t = ![t.val, 0, 0, 0]
    ∧ win0_4.index t = ![0, t.val] ∧ win0_5.index t = ![0, t.val] :=
  (by decide +kernel : ∀ t : Fin grid0.N, _)

theorem point_lt (t : Fin cfg0.N) : t.val < 37 := Nat.lt_of_lt_of_eq t.isLt N_0

theorem emb0 (t : Fin cfg0.N) (a : Fin 768) (k : Fin 3584) : (win0_0.blk t).view.emb (ix2 a k) = ix2 a k := by
  blk_ext [idx t]

theorem emb1 (t : Fin cfg0.N) (k : Fin 3584) (j : Fin 256) :
    (win0_1.blk t).view.emb (ix2 k j) = ix2 k ⟨256 * t.val + j.val, by have := point_lt t; omega⟩ := by
  blk_ext [idx t]

theorem emb2 (t : Fin cfg0.N) (s : Fin 8) (n : Fin 512) :
    (win0_2.blk t).view.emb (ix2 s n) = ix2 s ⟨512 * t.val + n.val, by have := point_lt t; omega⟩ := by
  blk_ext [idx t]

theorem emb3 (t : Fin cfg0.N) (i : Fin 32) (q : Fin 28) (s : Fin 8) (l : Fin 128) :
    (win0_3.blk t).view.emb (ix4 i q s l) = ix4 ⟨32 * t.val + i.val, by have := point_lt t; omega⟩ q s l := by
  blk_ext [idx t]

theorem emb4 (t : Fin cfg0.N) (a : Fin 768) (n : Fin 512) :
    (win0_4.blk t).view.emb (ix2 a n) = ix2 a ⟨512 * t.val + n.val, by have := point_lt t; omega⟩ := by
  blk_ext [idx t]

theorem emb5 (t : Fin cfg0.N) (a : Fin 768) (n : Fin 512) :
    (win0_5.blk t).view.emb (ix2 a n) = ix2 a ⟨512 * t.val + n.val, by have := point_lt t; omega⟩ := by
  blk_ext [idx t]

theorem bX_apply (c : Dev nD) (t : Fin cfg0.N) (a : Fin 768) (k : Fin 3584) :
    bX m c t (ix2 a k) = (m ((c : Thread nD τ).loc main_arg0) : Vec F S3x256x3584 .bf16) (ix3 ⟨a.val / 256, by omega⟩ ⟨a.val % 256, Nat.mod_lt _ (by decide)⟩ k) := by
  refine (congrArg (V m c main_v8 : Vec F S768x3584 .bf16) (emb0 t a k)).trans ?_
  rw [V_x]
  refine shapeCast_apply (s := S3x256x3584) _ _ _ _ ?_
  rewrite [Shape.rowMajor_val_three, Shape.rowMajor_val_two]
  show (a.val / 256 * 256 + a.val % 256) * 3584 + k.val = a.val * 3584 + k.val
  omega

theorem bC_apply (c : Dev nD) (t : Fin cfg0.N) (k : Fin 3584) (j : Fin 256) :
    bC m c t (ix2 k j) = (m ((c : Thread nD τ).loc main_arg1) : Vec F S3584x9472 .i8) (ix2 k ⟨256 * t.val + j.val, by have := point_lt t; omega⟩) := by
  refine (congrArg (V m c main_arg1 : Vec F S3584x9472 .i8) (emb1 t k j)).trans ?_
  rw [V_main_arg1]

theorem bT_apply (c : Dev nD) (t : Fin cfg0.N) (s : Fin 8) (n : Fin 512) :
    bT m c t (ix2 s n) = table (m ((c : Thread nD τ).loc main_arg2)) (ix2 s ⟨512 * t.val + n.val, by have := point_lt t; omega⟩) := by
  refine (congrArg (V m c main_v7 : Vec F S8x18944 .i32) (emb2 t s n)).trans ?_
  rw [V_table]

theorem bS_apply (c : Dev nD) (t : Fin cfg0.N) (i : Fin 32) (q : Fin 28) (s : Fin 8) (l : Fin 128) :
    bS m c t (ix4 i q s l) = (m ((c : Thread nD τ).loc main_arg3) : Vec F S33947648 .i32)
      (ix1 ⟨(((32 * t.val + i.val) * 28 + q.val) * 8 + s.val) * 128 + l.val, by have := point_lt t; omega⟩) := by
  refine (congrArg (V m c main_v0 : Vec F S1184x28x8x128 .i32) (emb3 t i q s l)).trans ?_
  rw [V_words]
  refine shapeCast_apply (s := S33947648) _ _ _ _ ?_
  rewrite [Shape.rowMajor_val_four, Shape.rowMajor_val_one]
  rfl

/-- A block's dense weights are the columns of the whole dense weights at its place. -/
theorem bits_apply (c : Dev nD) (t : Fin cfg0.N) (k : Fin 3584) (n : Fin 512) :
    blkBits (bC m c t) (bT m c t) k n
      = denseBits (m ((c : Thread nD τ).loc main_arg1)) (m ((c : Thread nD τ).loc main_arg2)) k ⟨512 * t.val + n.val, by have := point_lt t; omega⟩ := by
  have ht := point_lt t
  unfold blkBits
  rw [bC_apply, show (fun s => bT m c t (ix2 s n)) = _ from funext fun s => bT_apply m c t s n, entry_table]
  unfold denseBits
  have e1 : (⟨256 * t.val + n.val / 2, by omega⟩ : Fin 9472) = ⟨(512 * t.val + n.val) / 2, by omega⟩ := Fin.ext (by show 256 * t.val + n.val / 2 = (512 * t.val + n.val) / 2; omega)
  have e2 : n.val % 2 = (512 * t.val + n.val) % 2 := by omega
  rw [e2]
  exact congrArg (fun z => (m ((c : Thread nD τ).loc main_arg2) : Vec F S18944x16 .i16) (ix2 ⟨512 * t.val + n.val, by omega⟩
    (nib ((m ((c : Thread nD τ).loc main_arg1) : Vec F S3584x9472 .i8) (ix2 k z)) ((512 * t.val + n.val) % 2)))) e1

/-- and its sparse weights those of the whole sparse weights. -/
theorem sparse_apply (c : Dev nD) (t : Fin cfg0.N) (k : Fin 3584) (n : Fin 512) :
    blkSparse (bS m c t) k n = sparseBits (m ((c : Thread nD τ).loc main_arg3)) k ⟨512 * t.val + n.val, by have := point_lt t; omega⟩ := by
  have ht := point_lt t
  unfold blkSparse
  rw [bS_apply]
  unfold sparseBits
  have e2 : n.val % 2 = (512 * t.val + n.val) % 2 := by omega
  rw [e2]
  refine congrArg (fun z => ((m ((c : Thread nD τ).loc main_arg3) : Vec F S33947648 .i32) (ix1 z)).extractLsb' (16 * ((512 * t.val + n.val) % 2)) 16) (Fin.ext ?_)
  show (((32 * t.val + n.val / 16) * 28 + k.val / 128) * 8 + n.val / 2 % 8) * 128 + k.val % 128
    = (((512 * t.val + n.val) / 16 * 28 + k.val / 128) * 8 + (512 * t.val + n.val) / 2 % 8) * 128 + k.val % 128
  rw [show 32 * t.val + n.val / 16 = (512 * t.val + n.val) / 16 by omega, show n.val / 2 % 8 = (512 * t.val + n.val) / 2 % 8 by omega]

end

/-! ## The results -/

section
variable (m : (ℓ : Loc nD τ sig) → Buf (Elt Ideal) ℓ) (ρ : Dev nD → PrngReg)

/-- The dense product of device `c`'s arguments. -/
abbrev denseProd (c : Dev nD) : S768x18944.Idx → EReal :=
  prod (m ((c : Thread nD τ).loc main_arg0)) (denseBits (m ((c : Thread nD τ).loc main_arg1)) (m ((c : Thread nD τ).loc main_arg2)))

/-- The sparse product of device `c`'s arguments. -/
abbrev sparseProd (c : Dev nD) : S768x18944.Idx → EReal :=
  prod (m ((c : Thread nD τ).loc main_arg0)) (sparseBits (m ((c : Thread nD τ).loc main_arg3)))

theorem sparse_sum (c : Dev nD) (t : Fin cfg0.N) (a : Fin 768) (n : Fin 512) :
    ∑ k : Fin 3584, (bX m c t (ix2 a k) : EReal) * FloatOps.ofBits (F := Ideal) .bf16 (blkSparse (bS m c t) k n)
      = sparseProd m c (ix2 a ⟨512 * t.val + n.val, by have := point_lt t; omega⟩) := by
  refine Finset.sum_congr rfl fun k _ => ?_
  rw [bX_apply, sparse_apply]
  rfl

theorem dense_sum (c : Dev nD) (t : Fin cfg0.N) (a : Fin 768) (n : Fin 512) :
    ∑ k : Fin 3584, (bX m c t (ix2 a k) : EReal) * FloatOps.ofBits (F := Ideal) .bf16 (blkBits (bC m c t) (bT m c t) k n)
      = denseProd m c (ix2 a ⟨512 * t.val + n.val, by have := point_lt t; omega⟩) := by
  refine Finset.sum_congr rfl fun k _ => ?_
  rw [bX_apply, bits_apply]
  rfl

theorem final_y (c : Dev nD) : (dats m 0 c).arrAt 4 cfg0.N = fun i => denseProd m c i + sparseProd m c i := by
  refine (dats m 0 c).arrAt_eq_of_covers 4 _ (by decide +kernel) fun t hf y => ?_
  blk_simp
  rw [after0_4]
  obtain ⟨a, n, rfl⟩ : ∃ (a : Fin 768) (n : Fin 512), y = ix2 a n := ⟨y 0, y 1, funext fun b => by match b with | ⟨0, _⟩ => rfl | ⟨1, _⟩ => rfl⟩
  refine (outY_apply _ _ _ _ a n).trans ?_
  rw [dense_sum, sparse_sum, emb4]

theorem final_ys (c : Dev nD) : (dats m 0 c).arrAt 5 cfg0.N = sparseProd m c := by
  refine (dats m 0 c).arrAt_eq_of_covers 5 _ (by decide +kernel) fun t hf y => ?_
  blk_simp
  rw [after0_5]
  obtain ⟨a, n, rfl⟩ : ∃ (a : Fin 768) (n : Fin 512), y = ix2 a n := ⟨y 0, y 1, funext fun b => by match b with | ⟨0, _⟩ => rfl | ⟨1, _⟩ => rfl⟩
  refine (outYs_apply _ _ a n).trans ?_
  rw [sparse_sum, emb5]

/-- The run: the two results at the products, the arguments unchanged. -/
theorem run_value : θ_run defs (onTc (τ := τ) (main (F := Ideal))) ⟨m, fun _ => 0, ρ⟩ fun r => ∀ c : Dev nD,
      r.2.mem ((c : Thread nD τ).loc main_v9_0) = (fun i => denseProd m c i + sparseProd m c i)
      ∧ r.2.mem ((c : Thread nD τ).loc main_v9_1) = sparseProd m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨((h.1 c).1 4).trans (final_y m c), ((h.1 c).1 5).trans (final_ys m c),
      ((h.1 c).2 main_arg0 (Pipeline.mem_restRefs_of main_arg0 (by decide) (by decide))).trans (V_main_arg0 m c),
      ((h.1 c).1 1).trans (((dats m 0 c).arrAt_in 1 rfl _).trans ((A_eq m c 1).trans (V_main_arg1 m c))),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c)⟩) (run_main m ρ)

end

end Cert.KernelIdeal.Hand
end
-- ==== Proof.RI.Tree.lean ====
/-
  The reference's results read at an index: the select tree is the table's entry, the even and odd columns joined again.
-/
module

public import proofs.«01_k».proof.Proof.Spec
public import proofs.«01_k».proof.Proof.Gen.ReferenceIdeal.Read

@[expose] public section

set_option maxRecDepth 16000

noncomputable section

namespace Cert.ReferenceIdeal.Hand

open Cert.ReferenceIdeal Cert.ReferenceIdeal.Gen Cert.ReferenceIdeal.Read Cert.Spec
open Idealize.ShloMosaic Idealize.ShloMosaic.ValueIdx

variable (x0 : (⟨S3x256x3584, .bf16⟩ : BufTy).Contents (Elt Ideal)) (x1 : (⟨S3584x9472, .i8⟩ : BufTy).Contents (Elt Ideal))
  (x2 : (⟨S18944x16, .i16⟩ : BufTy).Contents (Elt Ideal)) (x3 : (⟨S33947648, .i32⟩ : BufTy).Contents (Elt Ideal))

/-! ## The select tree -/

/-- Bit `b` of a field, as the tree tests it. -/
abbrev bit (v : BitVec 32) (b : BitVec 32) : BitVec 1 := IntOp.cmpi .eq (IntOp.andi (IntOp.shrsi .host v b) 1#32) 1#32

/-- Four levels of selects over sixteen entries pick the entry the field numbers. -/
theorem tree {α : Type} (T : Fin 16 → α) (n : Fin 16) :
    Scalar.select (bit (BitVec.ofNat 32 n) 3#32)
      (Scalar.select (bit (BitVec.ofNat 32 n) 2#32)
        (Scalar.select (bit (BitVec.ofNat 32 n) 1#32) (Scalar.select (bit (BitVec.ofNat 32 n) 0#32) (T 15) (T 14)) (Scalar.select (bit (BitVec.ofNat 32 n) 0#32) (T 13) (T 12)))
        (Scalar.select (bit (BitVec.ofNat 32 n) 1#32) (Scalar.select (bit (BitVec.ofNat 32 n) 0#32) (T 11) (T 10)) (Scalar.select (bit (BitVec.ofNat 32 n) 0#32) (T 9) (T 8))))
      (Scalar.select (bit (BitVec.ofNat 32 n) 2#32)
        (Scalar.select (bit (BitVec.ofNat 32 n) 1#32) (Scalar.select (bit (BitVec.ofNat 32 n) 0#32) (T 7) (T 6)) (Scalar.select (bit (BitVec.ofNat 32 n) 0#32) (T 5) (T 4)))
        (Scalar.select (bit (BitVec.ofNat 32 n) 1#32) (Scalar.select (bit (BitVec.ofNat 32 n) 0#32) (T 3) (T 2)) (Scalar.select (bit (BitVec.ofNat 32 n) 0#32) (T 1) (T 0)))) = T n := by
  fin_cases n <;> rfl

theorem field_lo (b : BitVec 8) : IntOp.andi (b.setWidth 32) 15#32 = BitVec.ofNat 32 (nib b 0) := by
  revert b; decide +kernel
theorem field_hi (b : BitVec 8) : IntOp.shrsi .host (b.setWidth 32) 4#32 = BitVec.ofNat 32 (nib b 1) := by
  revert b; decide +kernel

/-! ## The table's columns -/

theorem v6_apply (i : S9472x16.Idx) : val_main_v6 (F := Ideal) x2 i
    = FloatOps.ofBits (F := Ideal) .bf16 (x2 (ix2 ⟨2 * (i 0).val, by have : (i 0).val < 9472 := (i 0).isLt; omega⟩ (i 1))) := by
  show FloatOps.ofBits (F := Ideal) .bf16 (x2 _) = _
  congr 2; funext a
  match a with
  | ⟨0, _⟩ => exact Fin.ext (Nat.zero_add _)
  | ⟨1, _⟩ => exact Fin.ext ((Nat.zero_add _).trans (Nat.one_mul _))

theorem v78_apply (i : S9472x16.Idx) : val_main_v78 (F := Ideal) x2 i
    = FloatOps.ofBits (F := Ideal) .bf16 (x2 (ix2 ⟨2 * (i 0).val + 1, by have : (i 0).val < 9472 := (i 0).isLt; omega⟩ (i 1))) := by
  show FloatOps.ofBits (F := Ideal) .bf16 (x2 _) = _
  congr 2; funext a
  match a with
  | ⟨0, _⟩ => exact Fin.ext (Nat.add_comm _ _)
  | ⟨1, _⟩ => exact Fin.ext ((Nat.zero_add _).trans (Nat.one_mul _))

theorem col0_0 (i : S9472.Idx) : val_main_v8 (F := Ideal) x2 i
    = FloatOps.ofBits (F := Ideal) .bf16 (x2 (ix2 ⟨2 * (i 0).val + 0, by have : (i 0).val < 9472 := (i 0).isLt; omega⟩ 0)) := by
  rw [val_main_v8_apply, val_main_v7_apply, v6_apply]
  congr 2; funext a
  match a with
  | ⟨0, _⟩ => exact Fin.ext (by show 2 * ((i 0).val / 1) = 2 * (i 0).val + 0; omega)
  | ⟨1, _⟩ => rfl
theorem col0_1 (i : S9472.Idx) : val_main_v10 (F := Ideal) x2 i
    = FloatOps.ofBits (F := Ideal) .bf16 (x2 (ix2 ⟨2 * (i 0).val + 0, by have : (i 0).val < 9472 := (i 0).isLt; omega⟩ 1)) := by
  rw [val_main_v10_apply, val_main_v9_apply, v6_apply]
  congr 2; funext a
  match a with
  | ⟨0, _⟩ => exact Fin.ext (by show 2 * ((i 0).val / 1) = 2 * (i 0).val + 0; omega)
  | ⟨1, _⟩ => rfl
theorem col0_2 (i : S9472.Idx) : val_main_v12 (F := Ideal) x2 i
    = FloatOps.ofBits (F := Ideal) .bf16 (x2 (ix2 ⟨2 * (i 0).val + 0, by have : (i 0).val < 9472 := (i 0).isLt; omega⟩ 2)) := by
  rw [val_main_v12_apply, val_main_v11_apply, v6_apply]
  congr 2; funext a
  match a with
  | ⟨0, _⟩ => exact Fin.ext (by show 2 * ((i 0).val / 1) = 2 * (i 0).val + 0; omega)
  | ⟨1, _⟩ => rfl
theorem col0_3 (i : S9472.Idx) : val_main_v14 (F := Ideal) x2 i
    = FloatOps.ofBits (F := Ideal) .bf16 (x2 (ix2 ⟨2 * (i 0).val + 0, by have : (i 0).val < 9472 := (i 0).isLt; omega⟩ 3)) := by
  rw [val_main_v14_apply, val_main_v13_apply, v6_apply]
  congr 2; funext a
  match a with
  | ⟨0, _⟩ => exact Fin.ext (by show 2 * ((i 0).val / 1) = 2 * (i 0).val + 0; omega)
  | ⟨1, _⟩ => rfl
theorem col0_4 (i : S9472.Idx) : val_main_v16 (F := Ideal) x2 i
    = FloatOps.ofBits (F := Ideal) .bf16 (x2 (ix2 ⟨2 * (i 0).val + 0, by have : (i 0).val < 9472 := (i 0).isLt; omega⟩ 4)) := by
  rw [val_main_v16_apply, val_main_v15_apply, v6_apply]
  congr 2; funext a
  match a with
  | ⟨0, _⟩ => exact Fin.ext (by show 2 * ((i 0).val / 1) = 2 * (i 0).val + 0; omega)
  | ⟨1, _⟩ => rfl
theorem col0_5 (i : S9472.Idx) : val_main_v18 (F := Ideal) x2 i
    = FloatOps.ofBits (F := Ideal) .bf16 (x2 (ix2 ⟨2 * (i 0).val + 0, by have : (i 0).val < 9472 := (i 0).isLt; omega⟩ 5)) := by
  rw [val_main_v18_apply, val_main_v17_apply, v6_apply]
  congr 2; funext a
  match a with
  | ⟨0, _⟩ => exact Fin.ext (by show 2 * ((i 0).val / 1) = 2 * (i 0).val + 0; omega)
  | ⟨1, _⟩ => rfl
theorem col0_6 (i : S9472.Idx) : val_main_v20 (F := Ideal) x2 i
    = FloatOps.ofBits (F := Ideal) .bf16 (x2 (ix2 ⟨2 * (i 0).val + 0, by have : (i 0).val < 9472 := (i 0).isLt; omega⟩ 6)) := by
  rw [val_main_v20_apply, val_main_v19_apply, v6_apply]
  congr 2; funext a
  match a with
  | ⟨0, _⟩ => exact Fin.ext (by show 2 * ((i 0).val / 1) = 2 * (i 0).val + 0; omega)
  | ⟨1, _⟩ => rfl
theorem col0_7 (i : S9472.Idx) : val_main_v22 (F := Ideal) x2 i
    = FloatOps.ofBits (F := Ideal) .bf16 (x2 (ix2 ⟨2 * (i 0).val + 0, by have : (i 0).val < 9472 := (i 0).isLt; omega⟩ 7)) := by
  rw [val_main_v22_apply, val_main_v21_apply, v6_apply]
  congr 2; funext a
  match a with
  | ⟨0, _⟩ => exact Fin.ext (by show 2 * ((i 0).val / 1) = 2 * (i 0).val + 0; omega)
  | ⟨1, _⟩ => rfl
theorem col0_8 (i : S9472.Idx) : val_main_v24 (F := Ideal) x2 i
    = FloatOps.ofBits (F := Ideal) .bf16 (x2 (ix2 ⟨2 * (i 0).val + 0, by have : (i 0).val < 9472 := (i 0).isLt; omega⟩ 8)) := by
  rw [val_main_v24_apply, val_main_v23_apply, v6_apply]
  congr 2; funext a
  match a with
  | ⟨0, _⟩ => exact Fin.ext (by show 2 * ((i 0).val / 1) = 2 * (i 0).val + 0; omega)
  | ⟨1, _⟩ => rfl
theorem col0_9 (i : S9472.Idx) : val_main_v26 (F := Ideal) x2 i
    = FloatOps.ofBits (F := Ideal) .bf16 (x2 (ix2 ⟨2 * (i 0).val + 0, by have : (i 0).val < 9472 := (i 0).isLt; omega⟩ 9)) := by
  rw [val_main_v26_apply, val_main_v25_apply, v6_apply]
  congr 2; funext a
  match a with
  | ⟨0, _⟩ => exact Fin.ext (by show 2 * ((i 0).val / 1) = 2 * (i 0).val + 0; omega)
  | ⟨1, _⟩ => rfl
theorem col0_10 (i : S9472.Idx) : val_main_v28 (F := Ideal) x2 i
    = FloatOps.ofBits (F := Ideal) .bf16 (x2 (ix2 ⟨2 * (i 0).val + 0, by have : (i 0).val < 9472 := (i 0).isLt; omega⟩ 10)) := by
  rw [val_main_v28_apply, val_main_v27_apply, v6_apply]
  congr 2; funext a
  match a with
  | ⟨0, _⟩ => exact Fin.ext (by show 2 * ((i 0).val / 1) = 2 * (i 0).val + 0; omega)
  | ⟨1, _⟩ => rfl
theorem col0_11 (i : S9472.Idx) : val_main_v30 (F := Ideal) x2 i
    = FloatOps.ofBits (F := Ideal) .bf16 (x2 (ix2 ⟨2 * (i 0).val + 0, by have : (i 0).val < 9472 := (i 0).isLt; omega⟩ 11)) := by
  rw [val_main_v30_apply, val_main_v29_apply, v6_apply]
  congr 2; funext a
  match a with
  | ⟨0, _⟩ => exact Fin.ext (by show 2 * ((i 0).val / 1) = 2 * (i 0).val + 0; omega)
  | ⟨1, _⟩ => rfl
theorem col0_12 (i : S9472.Idx) : val_main_v32 (F := Ideal) x2 i
    = FloatOps.ofBits (F := Ideal) .bf16 (x2 (ix2 ⟨2 * (i 0).val + 0, by have : (i 0).val < 9472 := (i 0).isLt; omega⟩ 12)) := by
  rw [val_main_v32_apply, val_main_v31_apply, v6_apply]
  congr 2; funext a
  match a with
  | ⟨0, _⟩ => exact Fin.ext (by show 2 * ((i 0).val / 1) = 2 * (i 0).val + 0; omega)
  | ⟨1, _⟩ => rfl
theorem col0_13 (i : S9472.Idx) : val_main_v34 (F := Ideal) x2 i
    = FloatOps.ofBits (F := Ideal) .bf16 (x2 (ix2 ⟨2 * (i 0).val + 0, by have : (i 0).val < 9472 := (i 0).isLt; omega⟩ 13)) := by
  rw [val_main_v34_apply, val_main_v33_apply, v6_apply]
  congr 2; funext a
  match a with
  | ⟨0, _⟩ => exact Fin.ext (by show 2 * ((i 0).val / 1) = 2 * (i 0).val + 0; omega)
  | ⟨1, _⟩ => rfl
theorem col0_14 (i : S9472.Idx) : val_main_v36 (F := Ideal) x2 i
    = FloatOps.ofBits (F := Ideal) .bf16 (x2 (ix2 ⟨2 * (i 0).val + 0, by have : (i 0).val < 9472 := (i 0).isLt; omega⟩ 14)) := by
  rw [val_main_v36_apply, val_main_v35_apply, v6_apply]
  congr 2; funext a
  match a with
  | ⟨0, _⟩ => exact Fin.ext (by show 2 * ((i 0).val / 1) = 2 * (i 0).val + 0; omega)
  | ⟨1, _⟩ => rfl
theorem col0_15 (i : S9472.Idx) : val_main_v38 (F := Ideal) x2 i
    = FloatOps.ofBits (F := Ideal) .bf16 (x2 (ix2 ⟨2 * (i 0).val + 0, by have : (i 0).val < 9472 := (i 0).isLt; omega⟩ 15)) := by
  rw [val_main_v38_apply, val_main_v37_apply, v6_apply]
  congr 2; funext a
  match a with
  | ⟨0, _⟩ => exact Fin.ext (by show 2 * ((i 0).val / 1) = 2 * (i 0).val + 0; omega)
  | ⟨1, _⟩ => rfl
theorem col1_0 (i : S9472.Idx) : val_main_v80 (F := Ideal) x2 i
    = FloatOps.ofBits (F := Ideal) .bf16 (x2 (ix2 ⟨2 * (i 0).val + 1, by have : (i 0).val < 9472 := (i 0).isLt; omega⟩ 0)) := by
  rw [val_main_v80_apply, val_main_v79_apply, v78_apply]
  congr 2; funext a
  match a with
  | ⟨0, _⟩ => exact Fin.ext (by show 2 * ((i 0).val / 1) + 1 = 2 * (i 0).val + 1; omega)
  | ⟨1, _⟩ => rfl
theorem col1_1 (i : S9472.Idx) : val_main_v82 (F := Ideal) x2 i
    = FloatOps.ofBits (F := Ideal) .bf16 (x2 (ix2 ⟨2 * (i 0).val + 1, by have : (i 0).val < 9472 := (i 0).isLt; omega⟩ 1)) := by
  rw [val_main_v82_apply, val_main_v81_apply, v78_apply]
  congr 2; funext a
  match a with
  | ⟨0, _⟩ => exact Fin.ext (by show 2 * ((i 0).val / 1) + 1 = 2 * (i 0).val + 1; omega)
  | ⟨1, _⟩ => rfl
theorem col1_2 (i : S9472.Idx) : val_main_v84 (F := Ideal) x2 i
    = FloatOps.ofBits (F := Ideal) .bf16 (x2 (ix2 ⟨2 * (i 0).val + 1, by have : (i 0).val < 9472 := (i 0).isLt; omega⟩ 2)) := by
  rw [val_main_v84_apply, val_main_v83_apply, v78_apply]
  congr 2; funext a
  match a with
  | ⟨0, _⟩ => exact Fin.ext (by show 2 * ((i 0).val / 1) + 1 = 2 * (i 0).val + 1; omega)
  | ⟨1, _⟩ => rfl
theorem col1_3 (i : S9472.Idx) : val_main_v86 (F := Ideal) x2 i
    = FloatOps.ofBits (F := Ideal) .bf16 (x2 (ix2 ⟨2 * (i 0).val + 1, by have : (i 0).val < 9472 := (i 0).isLt; omega⟩ 3)) := by
  rw [val_main_v86_apply, val_main_v85_apply, v78_apply]
  congr 2; funext a
  match a with
  | ⟨0, _⟩ => exact Fin.ext (by show 2 * ((i 0).val / 1) + 1 = 2 * (i 0).val + 1; omega)
  | ⟨1, _⟩ => rfl
theorem col1_4 (i : S9472.Idx) : val_main_v88 (F := Ideal) x2 i
    = FloatOps.ofBits (F := Ideal) .bf16 (x2 (ix2 ⟨2 * (i 0).val + 1, by have : (i 0).val < 9472 := (i 0).isLt; omega⟩ 4)) := by
  rw [val_main_v88_apply, val_main_v87_apply, v78_apply]
  congr 2; funext a
  match a with
  | ⟨0, _⟩ => exact Fin.ext (by show 2 * ((i 0).val / 1) + 1 = 2 * (i 0).val + 1; omega)
  | ⟨1, _⟩ => rfl
theorem col1_5 (i : S9472.Idx) : val_main_v90 (F := Ideal) x2 i
    = FloatOps.ofBits (F := Ideal) .bf16 (x2 (ix2 ⟨2 * (i 0).val + 1, by have : (i 0).val < 9472 := (i 0).isLt; omega⟩ 5)) := by
  rw [val_main_v90_apply, val_main_v89_apply, v78_apply]
  congr 2; funext a
  match a with
  | ⟨0, _⟩ => exact Fin.ext (by show 2 * ((i 0).val / 1) + 1 = 2 * (i 0).val + 1; omega)
  | ⟨1, _⟩ => rfl
theorem col1_6 (i : S9472.Idx) : val_main_v92 (F := Ideal) x2 i
    = FloatOps.ofBits (F := Ideal) .bf16 (x2 (ix2 ⟨2 * (i 0).val + 1, by have : (i 0).val < 9472 := (i 0).isLt; omega⟩ 6)) := by
  rw [val_main_v92_apply, val_main_v91_apply, v78_apply]
  congr 2; funext a
  match a with
  | ⟨0, _⟩ => exact Fin.ext (by show 2 * ((i 0).val / 1) + 1 = 2 * (i 0).val + 1; omega)
  | ⟨1, _⟩ => rfl
theorem col1_7 (i : S9472.Idx) : val_main_v94 (F := Ideal) x2 i
    = FloatOps.ofBits (F := Ideal) .bf16 (x2 (ix2 ⟨2 * (i 0).val + 1, by have : (i 0).val < 9472 := (i 0).isLt; omega⟩ 7)) := by
  rw [val_main_v94_apply, val_main_v93_apply, v78_apply]
  congr 2; funext a
  match a with
  | ⟨0, _⟩ => exact Fin.ext (by show 2 * ((i 0).val / 1) + 1 = 2 * (i 0).val + 1; omega)
  | ⟨1, _⟩ => rfl
theorem col1_8 (i : S9472.Idx) : val_main_v96 (F := Ideal) x2 i
    = FloatOps.ofBits (F := Ideal) .bf16 (x2 (ix2 ⟨2 * (i 0).val + 1, by have : (i 0).val < 9472 := (i 0).isLt; omega⟩ 8)) := by
  rw [val_main_v96_apply, val_main_v95_apply, v78_apply]
  congr 2; funext a
  match a with
  | ⟨0, _⟩ => exact Fin.ext (by show 2 * ((i 0).val / 1) + 1 = 2 * (i 0).val + 1; omega)
  | ⟨1, _⟩ => rfl
theorem col1_9 (i : S9472.Idx) : val_main_v98 (F := Ideal) x2 i
    = FloatOps.ofBits (F := Ideal) .bf16 (x2 (ix2 ⟨2 * (i 0).val + 1, by have : (i 0).val < 9472 := (i 0).isLt; omega⟩ 9)) := by
  rw [val_main_v98_apply, val_main_v97_apply, v78_apply]
  congr 2; funext a
  match a with
  | ⟨0, _⟩ => exact Fin.ext (by show 2 * ((i 0).val / 1) + 1 = 2 * (i 0).val + 1; omega)
  | ⟨1, _⟩ => rfl
theorem col1_10 (i : S9472.Idx) : val_main_v100 (F := Ideal) x2 i
    = FloatOps.ofBits (F := Ideal) .bf16 (x2 (ix2 ⟨2 * (i 0).val + 1, by have : (i 0).val < 9472 := (i 0).isLt; omega⟩ 10)) := by
  rw [val_main_v100_apply, val_main_v99_apply, v78_apply]
  congr 2; funext a
  match a with
  | ⟨0, _⟩ => exact Fin.ext (by show 2 * ((i 0).val / 1) + 1 = 2 * (i 0).val + 1; omega)
  | ⟨1, _⟩ => rfl
theorem col1_11 (i : S9472.Idx) : val_main_v102 (F := Ideal) x2 i
    = FloatOps.ofBits (F := Ideal) .bf16 (x2 (ix2 ⟨2 * (i 0).val + 1, by have : (i 0).val < 9472 := (i 0).isLt; omega⟩ 11)) := by
  rw [val_main_v102_apply, val_main_v101_apply, v78_apply]
  congr 2; funext a
  match a with
  | ⟨0, _⟩ => exact Fin.ext (by show 2 * ((i 0).val / 1) + 1 = 2 * (i 0).val + 1; omega)
  | ⟨1, _⟩ => rfl
theorem col1_12 (i : S9472.Idx) : val_main_v104 (F := Ideal) x2 i
    = FloatOps.ofBits (F := Ideal) .bf16 (x2 (ix2 ⟨2 * (i 0).val + 1, by have : (i 0).val < 9472 := (i 0).isLt; omega⟩ 12)) := by
  rw [val_main_v104_apply, val_main_v103_apply, v78_apply]
  congr 2; funext a
  match a with
  | ⟨0, _⟩ => exact Fin.ext (by show 2 * ((i 0).val / 1) + 1 = 2 * (i 0).val + 1; omega)
  | ⟨1, _⟩ => rfl
theorem col1_13 (i : S9472.Idx) : val_main_v106 (F := Ideal) x2 i
    = FloatOps.ofBits (F := Ideal) .bf16 (x2 (ix2 ⟨2 * (i 0).val + 1, by have : (i 0).val < 9472 := (i 0).isLt; omega⟩ 13)) := by
  rw [val_main_v106_apply, val_main_v105_apply, v78_apply]
  congr 2; funext a
  match a with
  | ⟨0, _⟩ => exact Fin.ext (by show 2 * ((i 0).val / 1) + 1 = 2 * (i 0).val + 1; omega)
  | ⟨1, _⟩ => rfl
theorem col1_14 (i : S9472.Idx) : val_main_v108 (F := Ideal) x2 i
    = FloatOps.ofBits (F := Ideal) .bf16 (x2 (ix2 ⟨2 * (i 0).val + 1, by have : (i 0).val < 9472 := (i 0).isLt; omega⟩ 14)) := by
  rw [val_main_v108_apply, val_main_v107_apply, v78_apply]
  congr 2; funext a
  match a with
  | ⟨0, _⟩ => exact Fin.ext (by show 2 * ((i 0).val / 1) + 1 = 2 * (i 0).val + 1; omega)
  | ⟨1, _⟩ => rfl
theorem col1_15 (i : S9472.Idx) : val_main_v110 (F := Ideal) x2 i
    = FloatOps.ofBits (F := Ideal) .bf16 (x2 (ix2 ⟨2 * (i 0).val + 1, by have : (i 0).val < 9472 := (i 0).isLt; omega⟩ 15)) := by
  rw [val_main_v110_apply, val_main_v109_apply, v78_apply]
  congr 2; funext a
  match a with
  | ⟨0, _⟩ => exact Fin.ext (by show 2 * ((i 0).val / 1) + 1 = 2 * (i 0).val + 1; omega)
  | ⟨1, _⟩ => rfl

/-- The decoded weights of the even columns. -/
theorem w0_apply (i : S3584x9472.Idx) : val_main_v77 (F := Ideal) x1 x2 i
    = FloatOps.ofBits (F := Ideal) .bf16 (x2 (ix2 ⟨2 * (i 1).val + 0, by have : (i 1).val < 9472 := (i 1).isLt; omega⟩ (nib (x1 i) 0))) := by
  have e : val_main_v3 (F := Ideal) x1 i = BitVec.ofNat 32 (nib (x1 i) 0) := field_lo (x1 i)
  simp only [val_main_v39_apply, val_main_v40_apply, val_main_v41_apply, val_main_v42_apply, val_main_v43_apply, val_main_v44_apply, val_main_v45_apply, val_main_v46_apply, val_main_v47_apply, val_main_v48_apply, val_main_v49_apply, val_main_v50_apply, val_main_v51_apply, val_main_v52_apply, val_main_v53_apply, val_main_v54_apply, val_main_v55_apply, val_main_v56_apply, val_main_v57_apply, val_main_v58_apply, val_main_v59_apply, val_main_v60_apply, val_main_v61_apply, val_main_v62_apply, val_main_v63_apply, val_main_v64_apply, val_main_v65_apply, val_main_v66_apply, val_main_v67_apply, val_main_v68_apply, val_main_v69_apply, val_main_v70_apply, val_main_v71_apply, val_main_v72_apply, val_main_v73_apply, val_main_v74_apply, val_main_v75_apply, val_main_v76_apply, val_main_v77_apply, val_main_call0_v0_apply, val_main_call0_v1_apply, val_main_call1_v0_apply, val_main_call1_v1_apply, val_main_call2_v0_apply, val_main_call2_v1_apply, val_main_call3_v0_apply, val_main_call3_v1_apply, val_main_call4_v0_apply, val_main_call4_v1_apply, val_main_call5_v0_apply, val_main_call5_v1_apply, val_main_call6_v0_apply, val_main_call6_v1_apply, val_main_call7_v0_apply, val_main_call7_v1_apply]
  simp only [e, col0_0, col0_1, col0_2, col0_3, col0_4, col0_5, col0_6, col0_7, col0_8, col0_9, col0_10, col0_11, col0_12, col0_13, col0_14, col0_15]
  exact tree (fun s => FloatOps.ofBits (F := Ideal) .bf16 (x2 (ix2 ⟨2 * (i 1).val + 0, by have : (i 1).val < 9472 := (i 1).isLt; omega⟩ s))) (nib (x1 i) 0)

/-- The decoded weights of the odd columns. -/
theorem w1_apply (i : S3584x9472.Idx) : val_main_v149 (F := Ideal) x1 x2 i
    = FloatOps.ofBits (F := Ideal) .bf16 (x2 (ix2 ⟨2 * (i 1).val + 1, by have : (i 1).val < 9472 := (i 1).isLt; omega⟩ (nib (x1 i) 1))) := by
  have e : val_main_v5 (F := Ideal) x1 i = BitVec.ofNat 32 (nib (x1 i) 1) := field_hi (x1 i)
  simp only [val_main_v111_apply, val_main_v112_apply, val_main_v113_apply, val_main_v114_apply, val_main_v115_apply, val_main_v116_apply, val_main_v117_apply, val_main_v118_apply, val_main_v119_apply, val_main_v120_apply, val_main_v121_apply, val_main_v122_apply, val_main_v123_apply, val_main_v124_apply, val_main_v125_apply, val_main_v126_apply, val_main_v127_apply, val_main_v128_apply, val_main_v129_apply, val_main_v130_apply, val_main_v131_apply, val_main_v132_apply, val_main_v133_apply, val_main_v134_apply, val_main_v135_apply, val_main_v136_apply, val_main_v137_apply, val_main_v138_apply, val_main_v139_apply, val_main_v140_apply, val_main_v141_apply, val_main_v142_apply, val_main_v143_apply, val_main_v144_apply, val_main_v145_apply, val_main_v146_apply, val_main_v147_apply, val_main_v148_apply, val_main_v149_apply, val_main_call15_v0_apply, val_main_call15_v1_apply, val_main_call16_v0_apply, val_main_call16_v1_apply, val_main_call17_v0_apply, val_main_call17_v1_apply, val_main_call18_v0_apply, val_main_call18_v1_apply, val_main_call19_v0_apply, val_main_call19_v1_apply, val_main_call20_v0_apply, val_main_call20_v1_apply, val_main_call21_v0_apply, val_main_call21_v1_apply, val_main_call22_v0_apply, val_main_call22_v1_apply]
  simp only [e, col1_0, col1_1, col1_2, col1_3, col1_4, col1_5, col1_6, col1_7, col1_8, col1_9, col1_10, col1_11, col1_12, col1_13, col1_14, col1_15]
  exact tree (fun s => FloatOps.ofBits (F := Ideal) .bf16 (x2 (ix2 ⟨2 * (i 1).val + 1, by have : (i 1).val < 9472 := (i 1).isLt; omega⟩ s))) (nib (x1 i) 1)

end Cert.ReferenceIdeal.Hand
end
end
-- ==== Proof.RI.Value.lean ====
/-
  The reference's two results as the specification's products.
-/
module

public import proofs.«01_k».proof.Proof.RI.Tree

@[expose] public section

set_option maxRecDepth 16000

noncomputable section

namespace Cert.ReferenceIdeal.Hand

open Cert.ReferenceIdeal Cert.ReferenceIdeal.Gen Cert.ReferenceIdeal.Read Cert.Spec
open Idealize.ShloMosaic Idealize.ShloMosaic.ValueIdx

variable (x0 : (⟨S3x256x3584, .bf16⟩ : BufTy).Contents (Elt Ideal)) (x1 : (⟨S3584x9472, .i8⟩ : BufTy).Contents (Elt Ideal))
  (x2 : (⟨S18944x16, .i16⟩ : BufTy).Contents (Elt Ideal)) (x3 : (⟨S33947648, .i32⟩ : BufTy).Contents (Elt Ideal))

/-- An output index split into its column's pair and the place in the pair. -/
abbrev split (i : S3x256x18944.Idx) : S3x256x9472x2.Idx := fun a => match a with
  | ⟨0, _⟩ => ⟨(i 0).val, (i 0).isLt⟩
  | ⟨1, _⟩ => ⟨(i 1).val, (i 1).isLt⟩
  | ⟨2, _⟩ => ⟨(i 2).val / 2, by have : (i 2).val < 18944 := (i 2).isLt; show (i 2).val / 2 < 9472; omega⟩
  | ⟨3, _⟩ => ⟨(i 2).val % 2, Nat.mod_lt _ (by decide)⟩

/-- The column pair's index, with the joined axis at zero. -/
abbrev pairIdx (i : S3x256x18944.Idx) : S3x256x9472x1.Idx := fun a => match a with
  | ⟨0, _⟩ => ⟨(i 0).val, (i 0).isLt⟩
  | ⟨1, _⟩ => ⟨(i 1).val, (i 1).isLt⟩
  | ⟨2, _⟩ => ⟨(i 2).val / 2, by have : (i 2).val < 18944 := (i 2).isLt; show (i 2).val / 2 < 9472; omega⟩
  | ⟨3, _⟩ => ⟨0, Nat.one_pos⟩

/-- Two arrays joined along a new last axis, read at a split index: the first at even columns, the second at odd ones. -/
theorem stack_apply (u v : FVec Ideal S3x256x9472x1 .f32) (i : S3x256x18944.Idx) :
    concatenate S3x256x9472x2 3 [⟨S3x256x9472x1, u⟩, ⟨S3x256x9472x1, v⟩] concatenates_S3x256x9472x1_S3x256x9472x1_S3x256x9472x2_d3 (split i)
      = if (i 2).val % 2 = 0 then u (pairIdx i) else v (pairIdx i) := by
  split
  · rename_i h
    exact concatenate_pair_apply_left 3 u v _ (split i) rfl (pairIdx i) (fun b => match b with
      | ⟨0, _⟩ => rfl | ⟨1, _⟩ => rfl | ⟨2, _⟩ => rfl | ⟨3, _⟩ => h.symm)
  · rename_i h
    exact concatenate_pair_apply_right 3 u v _ (split i) rfl rfl (pairIdx i) (fun b => match b with
      | ⟨0, _⟩ => fun _ => rfl | ⟨1, _⟩ => fun _ => rfl | ⟨2, _⟩ => fun _ => rfl | ⟨3, _⟩ => fun hb => absurd rfl hb)
      (by show 0 + 1 = (i 2).val % 2; omega)

theorem idx155 (i : S3x256x18944.Idx) : idx_main_v155 i = split i := by
  have h0 : (i 0).val < 3 := (i 0).isLt
  have h1 : (i 1).val < 256 := (i 1).isLt
  have h2 : (i 2).val < 18944 := (i 2).isLt
  funext a
  match a with
  | ⟨0, _⟩ => exact Fin.ext (by show (((i 0).val * 256 + (i 1).val) * 18944 + (i 2).val) / 4849664 = (i 0).val; omega)
  | ⟨1, _⟩ => exact Fin.ext (by show (((i 0).val * 256 + (i 1).val) * 18944 + (i 2).val) / 18944 % 256 = (i 1).val; omega)
  | ⟨2, _⟩ => exact Fin.ext (by show (((i 0).val * 256 + (i 1).val) * 18944 + (i 2).val) / 2 % 9472 = (i 2).val / 2; omega)
  | ⟨3, _⟩ => exact Fin.ext (by show (((i 0).val * 256 + (i 1).val) * 18944 + (i 2).val) % 2 = (i 2).val % 2; omega)

/-- The dense product. -/
theorem dense_apply (i : S3x256x18944.Idx) : val_main_v155 (F := Ideal) x0 x1 x2 i
    = ∑ k : Fin 3584, x0 (ix3 (i 0) (i 1) k) * FloatOps.ofBits (F := Ideal) .bf16 (denseBits x1 x2 k (i 2)) := by
  have h2 : (i 2).val < 18944 := (i 2).isLt
  rw [val_main_v155_apply, idx155]
  refine (stack_apply _ _ i).trans ?_
  have el (k : Fin 3584) : (lidx_main_v150 (idx_main_v152 (pairIdx i)) k) = ix3 (i 0) (i 1) k := by
    funext a; match a with | ⟨0, _⟩ => rfl | ⟨1, _⟩ => rfl | ⟨2, _⟩ => rfl
  have er (k : Fin 3584) : (ridx_main_v150 (idx_main_v152 (pairIdx i)) k) = ix2 k ⟨(i 2).val / 2, by omega⟩ := by
    funext a; match a with | ⟨0, _⟩ => rfl | ⟨1, _⟩ => rfl
  split
  · rename_i h
    rw [val_main_v152_apply, val_main_v150_apply]
    refine Finset.sum_congr rfl fun k _ => ?_
    rw [w0_apply, el, er]
    unfold denseBits
    rw [h, show (⟨2 * ((ix2 (n0 := 3584) (n1 := 9472) k ⟨(i 2).val / 2, by omega⟩) 1).val + 0, by show 2 * ((i 2).val / 2) + 0 < 18944; omega⟩ : Fin 18944) = i 2 from
      Fin.ext (by show 2 * ((i 2).val / 2) + 0 = (i 2).val; omega)]
    rfl
  · rename_i h
    have h : (i 2).val % 2 = 1 := by omega
    rw [val_main_v153_apply, val_main_v151_apply]
    refine Finset.sum_congr rfl fun k _ => ?_
    rw [w1_apply, show lidx_main_v151 (idx_main_v153 (pairIdx i)) k = _ from el k, show ridx_main_v151 (idx_main_v153 (pairIdx i)) k = _ from er k]
    unfold denseBits
    rw [h, show (⟨2 * ((ix2 (n0 := 3584) (n1 := 9472) k ⟨(i 2).val / 2, by omega⟩) 1).val + 1, by show 2 * ((i 2).val / 2) + 1 < 18944; omega⟩ : Fin 18944) = i 2 from
      Fin.ext (by show 2 * ((i 2).val / 2) + 1 = (i 2).val; omega)]
    rfl

theorem lo_half (w : BitVec 32) : (IntOp.andi w 65535#32).setWidth 16 = w.extractLsb' 0 16 := by
  apply BitVec.eq_of_getLsbD_eq
  intro q hq
  have e : (65535#16)[q] = true := (show ∀ (q : ℕ) (h : q < 16), (65535#16)[q] = true by decide) q hq
  simp [IntOp.andi, BitVec.getLsbD_extractLsb', hq, e]

theorem hi_half (w : BitVec 32) : (IntOp.shrui .host w 16#32).setWidth 16 = w.extractLsb' 16 16 := by
  apply BitVec.eq_of_getLsbD_eq
  intro q hq
  simp [IntOp.shrui, BitVec.getLsbD_extractLsb', hq]

theorem words_apply (k : Fin 3584) (j : Fin 9472) : val_main_v158 (F := Ideal) x3 (ix2 k j)
    = x3 (ix1 ⟨((j.val / 8 * 28 + k.val / 128) * 8 + j.val % 8) * 128 + k.val % 128, by omega⟩) := by
  rw [val_main_v158_apply, val_main_v157_apply, val_main_v156_apply]
  congr 1; funext a
  match a with
  | ⟨0, _⟩ => exact Fin.ext (by
      show (((k.val * 9472 + j.val) / 8 % 1184 * 28 + (k.val * 9472 + j.val) / 1212416) * 8 + (k.val * 9472 + j.val) % 8) * 128 + (k.val * 9472 + j.val) / 9472 % 128
        = ((j.val / 8 * 28 + k.val / 128) * 8 + j.val % 8) * 128 + k.val % 128
      have e1 : (k.val * 9472 + j.val) / 8 % 1184 = j.val / 8 := by omega
      have e2 : (k.val * 9472 + j.val) / 1212416 = k.val / 128 := by omega
      have e3 : (k.val * 9472 + j.val) % 8 = j.val % 8 := by omega
      have e4 : (k.val * 9472 + j.val) / 9472 % 128 = k.val % 128 := by omega
      rw [e1, e2, e3, e4])

/-- The sparse product. -/
theorem sparse_apply (i : S3x256x18944.Idx) : val_main_v172 (F := Ideal) x0 x3 i
    = ∑ k : Fin 3584, x0 (ix3 (i 0) (i 1) k) * FloatOps.ofBits (F := Ideal) .bf16 (sparseBits x3 k (i 2)) := by
  have h2 : (i 2).val < 18944 := (i 2).isLt
  rw [val_main_v172_apply, show idx_main_v172 i = split i from idx155 i]
  refine (stack_apply _ _ i).trans ?_
  have el (k : Fin 3584) : (lidx_main_v167 (idx_main_v169 (pairIdx i)) k) = ix3 (i 0) (i 1) k := by
    funext a; match a with | ⟨0, _⟩ => rfl | ⟨1, _⟩ => rfl | ⟨2, _⟩ => rfl
  have er (k : Fin 3584) : (ridx_main_v167 (idx_main_v169 (pairIdx i)) k) = ix2 k ⟨(i 2).val / 2, by omega⟩ := by
    funext a; match a with | ⟨0, _⟩ => rfl | ⟨1, _⟩ => rfl
  have ew (k : Fin 3584) : val_main_v158 (F := Ideal) x3 (ix2 k ⟨(i 2).val / 2, by omega⟩)
      = x3 (ix1 ⟨(((i 2).val / 16 * 28 + k.val / 128) * 8 + (i 2).val / 2 % 8) * 128 + k.val % 128, by omega⟩) := by
    rw [words_apply]
    congr 2
    exact Fin.ext (by
      show (((i 2).val / 2 / 8 * 28 + k.val / 128) * 8 + (i 2).val / 2 % 8) * 128 + k.val % 128 = (((i 2).val / 16 * 28 + k.val / 128) * 8 + (i 2).val / 2 % 8) * 128 + k.val % 128
      rw [show (i 2).val / 2 / 8 = (i 2).val / 16 by omega])
  split
  · rename_i h
    rw [val_main_v169_apply, val_main_v167_apply]
    refine Finset.sum_congr rfl fun k _ => ?_
    rw [el, er, val_main_v162_apply, val_main_v161_apply, val_main_v160_apply, val_main_v159_apply, ew]
    unfold sparseBits
    rw [h]
    exact congrArg (fun b => x0 _ * FloatOps.ofBits (F := Ideal) .bf16 b) (lo_half _)
  · rename_i h
    have h : (i 2).val % 2 = 1 := by omega
    rw [val_main_v170_apply, val_main_v168_apply]
    refine Finset.sum_congr rfl fun k _ => ?_
    rw [show lidx_main_v168 (idx_main_v170 (pairIdx i)) k = _ from el k, show ridx_main_v168 (idx_main_v170 (pairIdx i)) k = _ from er k,
      val_main_v166_apply, val_main_v165_apply, val_main_v164_apply, val_main_v163_apply, ew]
    unfold sparseBits
    rw [h]
    exact congrArg (fun b => x0 _ * FloatOps.ofBits (F := Ideal) .bf16 b) (hi_half _)

theorem idx175 (i : S768x18944.Idx) : idx_main_v175 i
    = ix3 ⟨(i 0).val / 256, by have : (i 0).val < 768 := (i 0).isLt; omega⟩ ⟨(i 0).val % 256, Nat.mod_lt _ (by decide)⟩ (i 1) := by
  have h0 : (i 0).val < 768 := (i 0).isLt
  have h1 : (i 1).val < 18944 := (i 1).isLt
  funext a
  match a with
  | ⟨0, _⟩ => exact Fin.ext (by show ((i 0).val * 18944 + (i 1).val) / 4849664 = (i 0).val / 256; omega)
  | ⟨1, _⟩ => exact Fin.ext (by show ((i 0).val * 18944 + (i 1).val) / 18944 % 256 = (i 0).val % 256; omega)
  | ⟨2, _⟩ => exact Fin.ext (by show ((i 0).val * 18944 + (i 1).val) % 18944 = (i 1).val; omega)

/-- The first result: the two products' sum. -/
theorem y_eq : val_main_v175 (F := Ideal) x0 x1 x2 x3
    = fun i => prod x0 (denseBits x1 x2) i + prod x0 (sparseBits x3) i := by
  funext i
  rw [val_main_v175_apply, val_main_v174_apply, val_main_v173_apply, dense_apply, sparse_apply, idx175]
  rfl

/-- The second result: the sparse product. -/
theorem ys_eq : val_main_v176 (F := Ideal) x0 x3 = fun i => prod x0 (sparseBits x3) i := by
  funext i
  rw [val_main_v176_apply, sparse_apply, show idx_main_v176 i = _ from idx175 i]
  rfl

end Cert.ReferenceIdeal.Hand
end
end
-- ==== Proof.lean ====
/-
  The proof of `Cert.Claim`: the kernel, its idealization and the reference run and leave their arguments unchanged, and the
  idealized kernel's two results are the reference's. Both programs' results are the sums of products that Proof/Spec.lean names:
  Proof/KI/Value.lean shows it of the kernel, Proof/RI/Value.lean of the reference.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.K.Launch
public import proofs.«01_k».proof.Proof.KI.Launch
public import proofs.«01_k».proof.Proof.KI.Value
public import proofs.«01_k».proof.Proof.RI.Value
public import Idealize.ShloMosaic.Adequacy
public import Idealize.ShloMosaic.Init

@[expose] public section

set_option maxRecDepth 16384

noncomputable section

namespace Cert.ReferenceIdeal.Hand

open Cert.ReferenceIdeal Cert.ReferenceIdeal.Gen Cert.ReferenceIdeal.Read Cert.Spec
open Idealize.ShloMosaic Idealize.ShloMosaic.TcCoe Idealize.SL.Sem

variable (m : (ℓ : Loc nD τ sig) → Buf (Elt Ideal) ℓ) (ρ : Dev nD → PrngReg)

/-- The reference's run: the two results at the products, the arguments unchanged. -/
theorem run_value : θ_run defs (onTc (τ := τ) (main (F := Ideal))) ⟨m, fun _ => 0, ρ⟩ fun r => ∀ c : Dev nD,
      r.2.mem ((c.tc : Thread nD τ).loc main_v175) = (fun i => prod (m ((c.tc : Thread nD τ).loc main_arg0)) (denseBits (m ((c.tc : Thread nD τ).loc main_arg1)) (m ((c.tc : Thread nD τ).loc main_arg2))) i
        + prod (m ((c.tc : Thread nD τ).loc main_arg0)) (sparseBits (m ((c.tc : Thread nD τ).loc main_arg3))) i)
      ∧ r.2.mem ((c.tc : Thread nD τ).loc main_v176) = (fun i => prod (m ((c.tc : Thread nD τ).loc main_arg0)) (sparseBits (m ((c.tc : Thread nD τ).loc main_arg3))) i)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans ((val_main_v175_eq (StableHlo.launchContents m c)).trans (y_eq _ _ _ _)),
      (h c).2.1.trans ((val_main_v176_eq (StableHlo.launchContents m c)).trans (ys_eq _ _)), (h c).2.2⟩)
    (Cert.ReferenceIdeal.Value.run (F := Ideal) m ρ)

end Cert.ReferenceIdeal.Hand

namespace Cert.Proof

open Idealize.ShloMosaic Idealize.SL.Sem

theorem frame_kernel : Cert.quiescent_Kernel := fun m g _ => Cert.Kernel.Hand.frame_main m g

theorem frame_kernelIdeal : Cert.quiescent_KernelIdeal := fun m g _ => Cert.KernelIdeal.Hand.frame_main m g

theorem frame_referenceIdeal : Cert.quiescent_ReferenceIdeal := fun m g _ =>
  (θ_run _ _ _).mono (fun r h => ⟨fun c => (h c).2.2, Idealize.ShloMosaic.sem_eq_zero_of_no_sems (by decide) r.2⟩)
    (Cert.ReferenceIdeal.Value.run (F := Ideal) m g)

theorem results_eq : Cert.algebraic_KernelIdeal_ReferenceIdeal := fun m g m' g' _ hm => by
  refine ⟨fun c i => Cert.KernelIdeal.Hand.denseProd m c i + Cert.KernelIdeal.Hand.sparseProd m c i, fun c => Cert.KernelIdeal.Hand.sparseProd m c,
    Cert.KernelIdeal.Hand.run_value m g, ?_⟩
  refine (θ_run _ _ _).mono (fun r h c => ?_) (Cert.ReferenceIdeal.Hand.run_value m' g')
  obtain ⟨e0, e1, e2, e3⟩ := hm c
  obtain ⟨hy, hys, h⟩ := h c
  refine ⟨hy.trans ?_, hys.trans ?_, h⟩
  · rw [e0, e1, e2, e3]; rfl
  · rw [e0, e3]

theorem claim : Cert.Claim := ⟨Cert.Kernel.Gen.facts, Cert.KernelIdeal.Gen.facts, Cert.ReferenceIdeal.Gen.facts,
  frame_kernel, frame_kernelIdeal, frame_referenceIdeal, trivial, results_eq⟩

end Cert.Proof

end
